-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![16384, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.block ⟨2, ![4096, 1024]⟩ ⟨2, ![16384, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2_3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S64x64x1024 : Shape := ⟨3, ![64, 64, 1024]⟩
abbrev S4x1024 : Shape := ⟨2, ![4, 1024]⟩
abbrev S4 : Shape := ⟨1, ![4]⟩
abbrev S3 : Shape := ⟨1, ![3]⟩
abbrev S_ : Shape := ⟨0, ![]⟩
abbrev S1 : Shape := ⟨1, ![1]⟩
abbrev S16x64x1024 : Shape := ⟨3, ![16, 64, 1024]⟩
abbrev S16x63x1024 : Shape := ⟨3, ![16, 63, 1024]⟩
abbrev S16x62x1024 : Shape := ⟨3, ![16, 62, 1024]⟩
abbrev S16x60x1024 : Shape := ⟨3, ![16, 60, 1024]⟩
abbrev S16x56x1024 : Shape := ⟨3, ![16, 56, 1024]⟩
abbrev S16x48x1024 : Shape := ⟨3, ![16, 48, 1024]⟩
abbrev S16x32x1024 : Shape := ⟨3, ![16, 32, 1024]⟩
abbrev S64x1x1024 : Shape := ⟨3, ![64, 1, 1024]⟩
abbrev S64x1024 : Shape := ⟨2, ![64, 1024]⟩
abbrev S32x1024 : Shape := ⟨2, ![32, 1024]⟩
abbrev S16x1024 : Shape := ⟨2, ![16, 1024]⟩
abbrev S8x1024 : Shape := ⟨2, ![8, 1024]⟩
abbrev S2x1024 : Shape := ⟨2, ![2, 1024]⟩
abbrev S1x1024 : Shape := ⟨2, ![1, 1024]⟩
abbrev S1024 : Shape := ⟨1, ![1024]⟩
abbrev S63x1024 : Shape := ⟨2, ![63, 1024]⟩
abbrev S62x1024 : Shape := ⟨2, ![62, 1024]⟩
abbrev S60x1024 : Shape := ⟨2, ![60, 1024]⟩
abbrev S56x1024 : Shape := ⟨2, ![56, 1024]⟩
abbrev S48x1024 : Shape := ⟨2, ![48, 1024]⟩
abbrev S16x1x1024 : Shape := ⟨3, ![16, 1, 1024]⟩

abbrev nBuf : Space → Nat
  | .hbm => 4
  | .vmem => 2
  | .smem => 0
  | _ => 0

abbrev bufTy : (tb : Table) → Fin (tcTables nBuf tb) → BufTy
  | .hbm, ⟨0, _⟩ => ⟨S4096x1024, .f32⟩
  | .hbm, ⟨1, _⟩ => ⟨S64x64x1024, .f32⟩
  | .hbm, ⟨2, _⟩ => ⟨S64x64x1024, .f32⟩
  | .hbm, ⟨3, _⟩ => ⟨S4096x1024, .f32⟩
  | .local _ .vmem, ⟨0, _⟩ => ⟨S64x64x1024, .f32⟩
  | .local _ .vmem, ⟨1, _⟩ => ⟨S4x1024, .f32⟩
  | _, _ => ⟨S4096x1024, .f32⟩

abbrev bufScoped : (cs : CoreSpace) → Fin (nBuf (.core cs)) → Bool
  | .vmem, ⟨0, _⟩ => true
  | .vmem, ⟨1, _⟩ => true
  | _, _ => false

abbrev semScoped : Fin 2 → Bool
  | ⟨0, _⟩ => true
  | ⟨1, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 2 14 bufScoped semScoped dmaSemScoped tileCredit tileCredit_eq_zero tileCredit_pos).withBarriers [(0, 1)]

abbrev main_arg0 : Ref sig .tc := ⟨.hbm, 0, rfl⟩
abbrev main_v1 : Ref sig .tc := ⟨.hbm, 1, rfl⟩
abbrev main_v2 : Ref sig .tc := ⟨.hbm, 2, rfl⟩
abbrev main_v3 : Ref sig .tc := ⟨.hbm, 3, rfl⟩
abbrev cc0_scratch0 : Ref sig .tc := ⟨.vmem, 0, rfl⟩
abbrev cc0_scratch1 : Ref sig .tc := ⟨.vmem, 1, rfl⟩
abbrev barrier0 : Sem sig := 1

abbrev nD : Nat := 4
abbrev τ : Topo := Topo.v7x

variable {F : FTy → Type} [FloatOps F]

abbrev grid0 : Pipeline.Grid := .none

def k0_dev1 (d0 : Dev nD) : Nat :=
  let c0_i32_31 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_22 : BitVec 32 := 1#32
  let v20 : BitVec 32 := Scalar.addi v2 c1_i32_22
  let c4_i32_23 : BitVec 32 := 4#32
  let c0_i32_24 : BitVec 32 := 0#32
  let v21 : BitVec 1 := Scalar.cmpi .eq c4_i32_23 c0_i32_24
  let c1_i32_25 : BitVec 32 := 1#32
  let v22 : BitVec 32 := Scalar.select v21 c1_i32_25 c4_i32_23
  let v23 : BitVec 32 := Scalar.remsi v20 v22
  let c0_i32_27 : BitVec 32 := 0#32
  let v25 : BitVec 1 := Scalar.cmpi .slt v23 c0_i32_27
  let c0_i32_28 : BitVec 32 := 0#32
  let v26 : BitVec 1 := Scalar.cmpi .slt v22 c0_i32_28
  let v27 : BitVec 1 := Scalar.xori v25 v26
  let c0_i32_26 : BitVec 32 := 0#32
  let v24 : BitVec 1 := Scalar.cmpi .ne v23 c0_i32_26
  let v28 : BitVec 1 := Scalar.andi v27 v24
  let v29 : BitVec 32 := Scalar.addi v23 v22
  let v30 : BitVec 32 := Scalar.select v28 v29 v23
  let c1_i32_30 : BitVec 32 := 1#32
  let v31 : BitVec 32 := Scalar.muli v30 c1_i32_30
  let v32 : BitVec 32 := Scalar.addi c0_i32_31 v31
  v32.toNat
def k0_dev2 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_32 : BitVec 32 := 2#32
  let v33 : BitVec 32 := Scalar.addi v2 c2_i32_32
  let c4_i32_33 : BitVec 32 := 4#32
  let c0_i32_34 : BitVec 32 := 0#32
  let v34 : BitVec 1 := Scalar.cmpi .eq c4_i32_33 c0_i32_34
  let c1_i32_35 : BitVec 32 := 1#32
  let v35 : BitVec 32 := Scalar.select v34 c1_i32_35 c4_i32_33
  let v36 : BitVec 32 := Scalar.remsi v33 v35
  let c0_i32_37 : BitVec 32 := 0#32
  let v38 : BitVec 1 := Scalar.cmpi .slt v36 c0_i32_37
  let c0_i32_38 : BitVec 32 := 0#32
  let v39 : BitVec 1 := Scalar.cmpi .slt v35 c0_i32_38
  let v40 : BitVec 1 := Scalar.xori v38 v39
  let c0_i32_36 : BitVec 32 := 0#32
  let v37 : BitVec 1 := Scalar.cmpi .ne v36 c0_i32_36
  let v41 : BitVec 1 := Scalar.andi v40 v37
  let v42 : BitVec 32 := Scalar.addi v36 v35
  let v43 : BitVec 32 := Scalar.select v41 v42 v36
  let c1_i32_40 : BitVec 32 := 1#32
  let v44 : BitVec 32 := Scalar.muli v43 c1_i32_40
  let v45 : BitVec 32 := Scalar.addi c0_i32_41 v44
  v45.toNat
def k0_dev3 (d0 : Dev nD) : Nat :=
  let c0_i32_51 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_42 : BitVec 32 := 3#32
  let v46 : BitVec 32 := Scalar.addi v2 c3_i32_42
  let c4_i32_43 : BitVec 32 := 4#32
  let c0_i32_44 : BitVec 32 := 0#32
  let v47 : BitVec 1 := Scalar.cmpi .eq c4_i32_43 c0_i32_44
  let c1_i32_45 : BitVec 32 := 1#32
  let v48 : BitVec 32 := Scalar.select v47 c1_i32_45 c4_i32_43
  let v49 : BitVec 32 := Scalar.remsi v46 v48
  let c0_i32_47 : BitVec 32 := 0#32
  let v51 : BitVec 1 := Scalar.cmpi .slt v49 c0_i32_47
  let c0_i32_48 : BitVec 32 := 0#32
  let v52 : BitVec 1 := Scalar.cmpi .slt v48 c0_i32_48
  let v53 : BitVec 1 := Scalar.xori v51 v52
  let c0_i32_46 : BitVec 32 := 0#32
  let v50 : BitVec 1 := Scalar.cmpi .ne v49 c0_i32_46
  let v54 : BitVec 1 := Scalar.andi v53 v50
  let v55 : BitVec 32 := Scalar.addi v49 v48
  let v56 : BitVec 32 := Scalar.select v54 v55 v49
  let c1_i32_50 : BitVec 32 := 1#32
  let v57 : BitVec 32 := Scalar.muli v56 c1_i32_50
  let v58 : BitVec 32 := Scalar.addi c0_i32_51 v57
  v58.toNat
def k0_dev4 (d0 : Dev nD) : Nat :=
  let c0_i32_305 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_293 : BitVec 32 := 1#32
  let v243 : BitVec 32 := Scalar.addi v2 c1_i32_293
  let c4_i32_294 : BitVec 32 := 4#32
  let c0_i32_295 : BitVec 32 := 0#32
  let v244 : BitVec 1 := Scalar.cmpi .eq c4_i32_294 c0_i32_295
  let c1_i32_296 : BitVec 32 := 1#32
  let v245 : BitVec 32 := Scalar.select v244 c1_i32_296 c4_i32_294
  let v246 : BitVec 32 := Scalar.remsi v243 v245
  let c0_i32_298 : BitVec 32 := 0#32
  let v248 : BitVec 1 := Scalar.cmpi .slt v246 c0_i32_298
  let c0_i32_299 : BitVec 32 := 0#32
  let v249 : BitVec 1 := Scalar.cmpi .slt v245 c0_i32_299
  let v250 : BitVec 1 := Scalar.xori v248 v249
  let c0_i32_297 : BitVec 32 := 0#32
  let v247 : BitVec 1 := Scalar.cmpi .ne v246 c0_i32_297
  let v251 : BitVec 1 := Scalar.andi v250 v247
  let v252 : BitVec 32 := Scalar.addi v246 v245
  let v253 : BitVec 32 := Scalar.select v251 v252 v246
  let c1_i32_304 : BitVec 32 := 1#32
  let v254 : BitVec 32 := Scalar.muli v253 c1_i32_304
  let v255 : BitVec 32 := Scalar.addi c0_i32_305 v254
  v255.toNat
def k0_dev5 (d0 : Dev nD) : Nat :=
  let c0_i32_320 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_308 : BitVec 32 := 2#32
  let v264 : BitVec 32 := Scalar.addi v2 c2_i32_308
  let c4_i32_309 : BitVec 32 := 4#32
  let c0_i32_310 : BitVec 32 := 0#32
  let v265 : BitVec 1 := Scalar.cmpi .eq c4_i32_309 c0_i32_310
  let c1_i32_311 : BitVec 32 := 1#32
  let v266 : BitVec 32 := Scalar.select v265 c1_i32_311 c4_i32_309
  let v267 : BitVec 32 := Scalar.remsi v264 v266
  let c0_i32_313 : BitVec 32 := 0#32
  let v269 : BitVec 1 := Scalar.cmpi .slt v267 c0_i32_313
  let c0_i32_314 : BitVec 32 := 0#32
  let v270 : BitVec 1 := Scalar.cmpi .slt v266 c0_i32_314
  let v271 : BitVec 1 := Scalar.xori v269 v270
  let c0_i32_312 : BitVec 32 := 0#32
  let v268 : BitVec 1 := Scalar.cmpi .ne v267 c0_i32_312
  let v272 : BitVec 1 := Scalar.andi v271 v268
  let v273 : BitVec 32 := Scalar.addi v267 v266
  let v274 : BitVec 32 := Scalar.select v272 v273 v267
  let c1_i32_319 : BitVec 32 := 1#32
  let v275 : BitVec 32 := Scalar.muli v274 c1_i32_319
  let v276 : BitVec 32 := Scalar.addi c0_i32_320 v275
  v276.toNat
def k0_dev6 (d0 : Dev nD) : Nat :=
  let c0_i32_335 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_323 : BitVec 32 := 3#32
  let v285 : BitVec 32 := Scalar.addi v2 c3_i32_323
  let c4_i32_324 : BitVec 32 := 4#32
  let c0_i32_325 : BitVec 32 := 0#32
  let v286 : BitVec 1 := Scalar.cmpi .eq c4_i32_324 c0_i32_325
  let c1_i32_326 : BitVec 32 := 1#32
  let v287 : BitVec 32 := Scalar.select v286 c1_i32_326 c4_i32_324
  let v288 : BitVec 32 := Scalar.remsi v285 v287
  let c0_i32_328 : BitVec 32 := 0#32
  let v290 : BitVec 1 := Scalar.cmpi .slt v288 c0_i32_328
  let c0_i32_329 : BitVec 32 := 0#32
  let v291 : BitVec 1 := Scalar.cmpi .slt v287 c0_i32_329
  let v292 : BitVec 1 := Scalar.xori v290 v291
  let c0_i32_327 : BitVec 32 := 0#32
  let v289 : BitVec 1 := Scalar.cmpi .ne v288 c0_i32_327
  let v293 : BitVec 1 := Scalar.andi v292 v289
  let v294 : BitVec 32 := Scalar.addi v288 v287
  let v295 : BitVec 32 := Scalar.select v293 v294 v288
  let c1_i32_334 : BitVec 32 := 1#32
  let v296 : BitVec 32 := Scalar.muli v295 c1_i32_334
  let v297 : BitVec 32 := Scalar.addi c0_i32_335 v296
  v297.toNat
def k0_dev7 (d0 : Dev nD) : Nat :=
  let c0_i32_400 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_391 : BitVec 32 := 1#32
  let v376 : BitVec 32 := Scalar.addi v2 c1_i32_391
  let c4_i32_392 : BitVec 32 := 4#32
  let c0_i32_393 : BitVec 32 := 0#32
  let v377 : BitVec 1 := Scalar.cmpi .eq c4_i32_392 c0_i32_393
  let c1_i32_394 : BitVec 32 := 1#32
  let v378 : BitVec 32 := Scalar.select v377 c1_i32_394 c4_i32_392
  let v379 : BitVec 32 := Scalar.remsi v376 v378
  let c0_i32_396 : BitVec 32 := 0#32
  let v381 : BitVec 1 := Scalar.cmpi .slt v379 c0_i32_396
  let c0_i32_397 : BitVec 32 := 0#32
  let v382 : BitVec 1 := Scalar.cmpi .slt v378 c0_i32_397
  let v383 : BitVec 1 := Scalar.xori v381 v382
  let c0_i32_395 : BitVec 32 := 0#32
  let v380 : BitVec 1 := Scalar.cmpi .ne v379 c0_i32_395
  let v384 : BitVec 1 := Scalar.andi v383 v380
  let v385 : BitVec 32 := Scalar.addi v379 v378
  let v386 : BitVec 32 := Scalar.select v384 v385 v379
  let c1_i32_399 : BitVec 32 := 1#32
  let v387 : BitVec 32 := Scalar.muli v386 c1_i32_399
  let v388 : BitVec 32 := Scalar.addi c0_i32_400 v387
  v388.toNat
def k0_dev8 (d0 : Dev nD) : Nat :=
  let c0_i32_410 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_401 : BitVec 32 := 2#32
  let v389 : BitVec 32 := Scalar.addi v2 c2_i32_401
  let c4_i32_402 : BitVec 32 := 4#32
  let c0_i32_403 : BitVec 32 := 0#32
  let v390 : BitVec 1 := Scalar.cmpi .eq c4_i32_402 c0_i32_403
  let c1_i32_404 : BitVec 32 := 1#32
  let v391 : BitVec 32 := Scalar.select v390 c1_i32_404 c4_i32_402
  let v392 : BitVec 32 := Scalar.remsi v389 v391
  let c0_i32_406 : BitVec 32 := 0#32
  let v394 : BitVec 1 := Scalar.cmpi .slt v392 c0_i32_406
  let c0_i32_407 : BitVec 32 := 0#32
  let v395 : BitVec 1 := Scalar.cmpi .slt v391 c0_i32_407
  let v396 : BitVec 1 := Scalar.xori v394 v395
  let c0_i32_405 : BitVec 32 := 0#32
  let v393 : BitVec 1 := Scalar.cmpi .ne v392 c0_i32_405
  let v397 : BitVec 1 := Scalar.andi v396 v393
  let v398 : BitVec 32 := Scalar.addi v392 v391
  let v399 : BitVec 32 := Scalar.select v397 v398 v392
  let c1_i32_409 : BitVec 32 := 1#32
  let v400 : BitVec 32 := Scalar.muli v399 c1_i32_409
  let v401 : BitVec 32 := Scalar.addi c0_i32_410 v400
  v401.toNat
def k0_dev9 (d0 : Dev nD) : Nat :=
  let c0_i32_420 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_411 : BitVec 32 := 3#32
  let v402 : BitVec 32 := Scalar.addi v2 c3_i32_411
  let c4_i32_412 : BitVec 32 := 4#32
  let c0_i32_413 : BitVec 32 := 0#32
  let v403 : BitVec 1 := Scalar.cmpi .eq c4_i32_412 c0_i32_413
  let c1_i32_414 : BitVec 32 := 1#32
  let v404 : BitVec 32 := Scalar.select v403 c1_i32_414 c4_i32_412
  let v405 : BitVec 32 := Scalar.remsi v402 v404
  let c0_i32_416 : BitVec 32 := 0#32
  let v407 : BitVec 1 := Scalar.cmpi .slt v405 c0_i32_416
  let c0_i32_417 : BitVec 32 := 0#32
  let v408 : BitVec 1 := Scalar.cmpi .slt v404 c0_i32_417
  let v409 : BitVec 1 := Scalar.xori v407 v408
  let c0_i32_415 : BitVec 32 := 0#32
  let v406 : BitVec 1 := Scalar.cmpi .ne v405 c0_i32_415
  let v410 : BitVec 1 := Scalar.andi v409 v406
  let v411 : BitVec 32 := Scalar.addi v405 v404
  let v412 : BitVec 32 := Scalar.select v410 v411 v405
  let c1_i32_419 : BitVec 32 := 1#32
  let v413 : BitVec 32 := Scalar.muli v412 c1_i32_419
  let v414 : BitVec 32 := Scalar.addi c0_i32_420 v413
  v414.toNat
-- ==== ReferenceIdeal.lean ====
abbrev S16384x1024 : Shape := ⟨2, ![16384, 1024]⟩
abbrev S_ : Shape := ⟨0, ![]⟩
abbrev S1024 : Shape := ⟨1, ![1024]⟩
abbrev S1x1024 : Shape := ⟨2, ![1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S_, .f32⟩
  | .hbm, ⟨2, _⟩ => ⟨S1024, .f32⟩
  | .hbm, ⟨3, _⟩ => ⟨S_, .f32⟩
  | .hbm, ⟨4, _⟩ => ⟨S16384x1024, .f32⟩
  | .hbm, ⟨5, _⟩ => ⟨S_, .i32⟩
  | .hbm, ⟨6, _⟩ => ⟨S16384x1024, .f32⟩
  | .hbm, ⟨7, _⟩ => ⟨S_, .i32⟩
  | .hbm, ⟨8, _⟩ => ⟨S1024, .f32⟩
  | .hbm, ⟨9, _⟩ => ⟨S16384x1024, .f32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S1x1024, .f32⟩
  | .hbm, ⟨14, _⟩ => ⟨S1024, .f32⟩
  | .hbm, ⟨15, _⟩ => ⟨S1024, .f32⟩
  | .hbm, ⟨16, _⟩ => ⟨S1x1024, .f32⟩
  | .hbm, ⟨17, _⟩ => ⟨S_, .i32⟩
  | .hbm, ⟨18, _⟩ => ⟨S16384x1024, .f32⟩
  | .hbm, ⟨19, _⟩ => ⟨S_, .i32⟩
  | .hbm, ⟨20, _⟩ => ⟨S_, .i32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_c : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_while0c_c_4 : Ref sig .tc := ⟨.hbm, 10, rfl⟩
abbrev main_while0c_v3 : Ref sig .tc := ⟨.hbm, 11, rfl⟩
abbrev main_while0b_call0_c : Ref sig .tc := ⟨.hbm, 12, rfl⟩
abbrev main_while0b_call0_v0 : Ref sig .tc := ⟨.hbm, 13, rfl⟩
abbrev main_while0b_v3 : Ref sig .tc := ⟨.hbm, 14, rfl⟩
abbrev main_while0b_v4 : Ref sig .tc := ⟨.hbm, 15, rfl⟩
abbrev main_while0b_call1_v0 : Ref sig .tc := ⟨.hbm, 16, rfl⟩
abbrev main_while0b_call1_c : Ref sig .tc := ⟨.hbm, 17, rfl⟩
abbrev main_while0b_v5 : Ref sig .tc := ⟨.hbm, 18, rfl⟩
abbrev main_while0b_c_4 : Ref sig .tc := ⟨.hbm, 19, rfl⟩
abbrev main_while0b_v6 : Ref sig .tc := ⟨.hbm, 20, rfl⟩

abbrev nD : Nat := 1
abbrev τ : Topo := Topo.v7x

variable {F : FTy → Type} [FloatOps F]

abbrev main_while0_count : Scf.Loop 32 := ⟨0#32, 16384#32, 1#32⟩
-- ==== Proof.Text.lean ====
/-
The kernel's body told in phases: copies in, entry barrier, in-place scan of each chunk, device total and its three
remote copies, the scan over the block totals, the receipt of the other devices' totals, the final scaling and the
copies out. `body_eq` says that this is the printed body, by unfolding both.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

set_option maxRecDepth 16384

noncomputable section

namespace Cert.Cumprod

open Cert.KernelIdeal Cert.KernelIdeal.Gen
open Idealize.ShloMosaic Idealize.ShloMosaic.TcCoe
open Idealize.SL Idealize.SL.Sem

variable {F : FTy → Type} [FloatOps F]

/-- A program of the kernel's core. -/
abbrev KProg (F : FTy → Type) [FloatOps F] (α : Type) : Type 1 := Prog (TpuEff nD τ sig (Elt F) Λ₀ .tc) α

/-- The reshaped operand, the result before its last reshape, the working buffer and the four gathered totals. -/
abbrev xM : Memref sig .tc .hbm S64x64x1024 .f32 := Memref.whole main_v1
abbrev yM : Memref sig .tc .hbm S64x64x1024 .f32 := Memref.whole main_v2
abbrev bM : Memref sig .tc .vmem S64x64x1024 .f32 := Memref.whole cc0_scratch0
abbrev gM : Memref sig .tc .vmem S4x1024 .f32 := Memref.whole cc0_scratch1

/-- Semaphore `k` of a four-entry array, and of a three-entry array. -/
abbrev sem4 (a : DmaSems sig S4) (k : ℕ) (h : ∀ i, (![k] : Fin 1 → ℕ) i + S1.size i ≤ S4.size i) : DmaSem sig :=
  ((a.slice (Rect.unit (s := S4) ![k] S1.size h)).squeeze S_ squeezes_S1_S_).sem
abbrev sem3 (a : DmaSems sig S3) (k : ℕ) (h : ∀ i, (![k] : Fin 1 → ℕ) i + S1.size i ≤ S3.size i) : DmaSem sig :=
  ((a.slice (Rect.unit (s := S3) ![k] S1.size h)).squeeze S_ squeezes_S1_S_).sem

/-- The barrier's and the acknowledgements' regular semaphores. -/
abbrev barS : Sem sig := (SemArray.scalar (sig.barrier 0 rfl) : Sems sig S_).sem
abbrev ackS : Sem sig := (cc0_scratch6 : Sems sig S_).sem

/-- Offsets at which a 16-row chunk lies inside the buffer. -/
abbrev InB (o s : ℕ) (size : Fin 3 → ℕ) : Prop := ∀ a, (![o, s, 0] : Fin 3 → ℕ) a + size a ≤ S64x64x1024.size a

/-- The chunk of sixteen blocks from block `o` on. -/
abbrev chunkR (o : ℕ) (h : InB o 0 S16x64x1024.size) : Rect S64x64x1024 := Rect.unit (s := S64x64x1024) ![o, 0, 0] S16x64x1024.size h
/-- A memref's chunk. -/
abbrev chunkM {sp : Space} (m : Memref sig .tc sp S64x64x1024 .f32) (o : ℕ) (h : InB o 0 S16x64x1024.size) :
    Memref sig .tc sp S16x64x1024 .f32 := m.slice (chunkR o h) (fun _ => rfl)

/-- Start the copy of the operand's chunk into the working buffer. -/
def copyIn (q : DmaSem sig) (o : ℕ) (h : InB o 0 S16x64x1024.size) : KProg F PUnit :=
  Prog.lift (.enqueueDma (chunkM xM o h) (.here (chunkM bM o h)) (.dma q) (View.wordExact_bits rfl) (View.wordExact_bits rfl) ⟨Or.inl rfl, trivial⟩)
/-- Wait for it. -/
def waitIn (q : DmaSem sig) (o : ℕ) (h : InB o 0 S16x64x1024.size) : KProg F PUnit :=
  Prog.lift (.waitDma2 q (chunkM xM o h) (chunkM bM o h) (View.wordExact_bits rfl) (View.wordExact_bits rfl))
/-- Start the copy of the working buffer's chunk into the result. -/
def copyOut (q : DmaSem sig) (o : ℕ) (h : InB o 0 S16x64x1024.size) : KProg F PUnit :=
  Prog.lift (.enqueueDma (chunkM bM o h) (.here (chunkM yM o h)) (.dma q) (View.wordExact_bits rfl) (View.wordExact_bits rfl) ⟨Or.inl rfl, trivial⟩)
/-- Wait for it. -/
def waitOut (q : DmaSem sig) (o : ℕ) (h : InB o 0 S16x64x1024.size) : KProg F PUnit :=
  Prog.lift (.waitDma2 q (chunkM bM o h) (chunkM yM o h) (View.wordExact_bits rfl) (View.wordExact_bits rfl))

/-- The values a rectangle of the given sizes holds. -/
abbrev Vals (F : FTy → Type) (size : Fin 3 → ℕ) : Type := (⟨3, size⟩ : Shape).Idx → Elt F .f32

/-- One doubling stage at shift `s`: load the rows from `s` on, load the rows from `0` on, store their combination
    at the rows from `s` on. -/
def stageP (o s : ℕ) (size : Fin 3 → ℕ) (w : Vals F size → Vals F size → Vals F size) (hs : InB o s size) (h0 : InB o 0 size)
    (hne : 0 < (⟨3, size⟩ : Shape).numel) : KProg F PUnit := do
  let a ← Prog.lift (.load bM (Rect.unit (s := S64x64x1024) ![o, s, 0] size hs).toLoadRect (View.loadsAt_vmem hne))
  let b ← Prog.lift (.load bM (Rect.unit (s := S64x64x1024) ![o, 0, 0] size h0).toLoadRect (View.loadsAt_vmem hne))
  let _ ← Prog.lift (.load bM (Rect.unit (s := S64x64x1024) ![o, s, 0] size hs).toLoadRect (View.loadsAt_vmem hne))
  Prog.lift (.store bM (Rect.unit (s := S64x64x1024) ![o, s, 0] size hs) (w a b) Finset.univ (View.stores_vmem_bits_univ hne rfl) (.inl rfl))

/-- The final scaling of a chunk: load it, store the combination `w` of what it held. -/
def scaleP (o : ℕ) (h : InB o 0 S16x64x1024.size) (w : Vec F S16x64x1024 .f32 → Vec F S16x64x1024 .f32) : KProg F PUnit := do
  let a ← Prog.lift (.load bM (chunkR o h).toLoadRect (View.loadsAt_vmem h_S16x64x1024))
  let _ ← Prog.lift (.load bM (chunkR o h).toLoadRect (View.loadsAt_vmem h_S16x64x1024))
  Prog.lift (.store bM (chunkR o h) (w a) Finset.univ (View.stores_vmem_bits_univ h_S16x64x1024 rfl) (.inl rfl))

/-- Row `k` of the gathered totals, as a vector. -/
abbrev rowR (k : ℕ) (h : ∀ a, (![k, 0] : Fin 2 → ℕ) a + S1x1024.size a ≤ S4x1024.size a) : Rect S4x1024 :=
  Rect.unit (s := S4x1024) ![k, 0] S1x1024.size h
abbrev rowM (k : ℕ) (h : ∀ a, (![k, 0] : Fin 2 → ℕ) a + S1x1024.size a ≤ S4x1024.size a) : Memref sig .tc .vmem S1024 .f32 :=
  ((gM.slice (rowR k h) (fun _ => rfl)).squeeze S1024 squeezes_S1x1024_S1024)

/-- Row 0's place. -/
theorem row0 : ∀ a, (![0, 0] : Fin 2 → ℕ) a + S1x1024.size a ≤ S4x1024.size a := inb_S4x1024_S1x1024_0_0

/-- Start the copy of row 0 to row `k` of device `d`. -/
def sendP (d : Dev nD) (qs qr : DmaSem sig) (k : ℕ) (h : ∀ a, (![k, 0] : Fin 2 → ℕ) a + S1x1024.size a ≤ S4x1024.size a) : KProg F PUnit :=
  Prog.lift (.enqueueDma (rowM 0 row0) (.remote (Dev.tc d) (rowM k h) (.dma qs)) (.dma qr)
    ((View.wordExact_bits rfl).reshape _ _) ((View.wordExact_bits rfl).reshape _ _) ⟨⟨rfl, Or.inl rfl⟩, trivial⟩)
/-- Wait for what row 0's copy sent, and for what arrives in row `k`. -/
def sentP (q : DmaSem sig) (k : ℕ) (h : ∀ a, (![k, 0] : Fin 2 → ℕ) a + S1x1024.size a ≤ S4x1024.size a) : KProg F PUnit :=
  Prog.lift (.waitDma2 q (rowM k h) (rowM 0 row0) ((View.wordExact_bits rfl).reshape _ _) ((View.wordExact_bits rfl).reshape _ _))
def gotP (q : DmaSem sig) (k : ℕ) (h : ∀ a, (![k, 0] : Fin 2 → ℕ) a + S1x1024.size a ≤ S4x1024.size a) : KProg F PUnit :=
  Prog.lift (.waitDma2 q (rowM 0 row0) (rowM k h) ((View.wordExact_bits rfl).reshape _ _) ((View.wordExact_bits rfl).reshape _ _))

/-- The six stages of a chunk. -/
def scanP (o : ℕ)
    (w1 : Vals F ![16, 63, 1024] → Vals F ![16, 63, 1024] → Vals F ![16, 63, 1024])
    (w2 : Vals F ![16, 62, 1024] → Vals F ![16, 62, 1024] → Vals F ![16, 62, 1024])
    (w4 : Vals F ![16, 60, 1024] → Vals F ![16, 60, 1024] → Vals F ![16, 60, 1024])
    (w8 : Vals F ![16, 56, 1024] → Vals F ![16, 56, 1024] → Vals F ![16, 56, 1024])
    (w16 : Vals F ![16, 48, 1024] → Vals F ![16, 48, 1024] → Vals F ![16, 48, 1024])
    (w32 : Vals F ![16, 32, 1024] → Vals F ![16, 32, 1024] → Vals F ![16, 32, 1024])
    (h1 : InB o 1 ![16, 63, 1024]) (g1 : InB o 0 ![16, 63, 1024]) (h2 : InB o 2 ![16, 62, 1024]) (g2 : InB o 0 ![16, 62, 1024])
    (h4 : InB o 4 ![16, 60, 1024]) (g4 : InB o 0 ![16, 60, 1024]) (h8 : InB o 8 ![16, 56, 1024]) (g8 : InB o 0 ![16, 56, 1024])
    (h16 : InB o 16 ![16, 48, 1024]) (g16 : InB o 0 ![16, 48, 1024]) (h32 : InB o 32 ![16, 32, 1024]) (g32 : InB o 0 ![16, 32, 1024]) : KProg F PUnit := do
  stageP o 1 ![16, 63, 1024] w1 h1 g1 h_S16x63x1024
  stageP o 2 ![16, 62, 1024] w2 h2 g2 h_S16x62x1024
  stageP o 4 ![16, 60, 1024] w4 h4 g4 h_S16x60x1024
  stageP o 8 ![16, 56, 1024] w8 h8 g8 h_S16x56x1024
  stageP o 16 ![16, 48, 1024] w16 h16 g16 h_S16x48x1024
  stageP o 32 ![16, 32, 1024] w32 h32 g32 h_S16x32x1024

/-- The device's number as the body computes it. -/
abbrev myWord (d : Dev nD) : BitVec 32 := Scalar.remsi (Scalar.divsi (Dev.word d) 1#32) 4#32

/-- The scan over the block totals, from the loaded last rows of the blocks. -/
def blockScan (v : Vec F S64x1x1024 .f32) : FVec F S64x1024 .f32 := k0_pay32 (k0_pay30 (k0_pay28 v)) k0_pay31

/-- Load the last row of every block. -/
def lastRows : KProg F (Vec F S64x1x1024 .f32) :=
  Prog.lift (.load bM (Rect.unit (s := S64x64x1024) ![0, 63, 0] S64x1x1024.size inb_S64x64x1024_S64x1x1024_0_63_0).toLoadRect (View.loadsAt_vmem h_S64x1x1024))

/-- Store the device's total in row 0. -/
def putTotal (v : Vec F S64x1x1024 .f32) : KProg F PUnit := do
  let _ ← Prog.lift (.load gM (rowR 0 row0).toLoadRect (View.loadsAt_vmem h_S1x1024))
  Prog.lift (.store gM (rowR 0 row0) (k0_pay29 v) Finset.univ (View.stores_vmem_bits_univ h_S1x1024 rfl) (.inl rfl))

/-- Load the four gathered totals. -/
def allTotals : KProg F (Vec F S4x1024 .f32) :=
  Prog.lift (.load gM (Rect.unit (s := S4x1024) ![0, 0] S4x1024.size inb_S4x1024_S4x1024_0_0).toLoadRect (View.loadsAt_vmem h_S4x1024))

/-- The copies in and the entry barrier. -/
def enterP (d : Dev nD) : KProg F PUnit := do
  copyIn (sem4 cc0_scratch2 0 inb_S4_S1_0) 0 inb_S64x64x1024_S16x64x1024_0_0_0
  copyIn (sem4 cc0_scratch2 1 inb_S4_S1_1) 16 inb_S64x64x1024_S16x64x1024_16_0_0
  copyIn (sem4 cc0_scratch2 2 inb_S4_S1_2) 32 inb_S64x64x1024_S16x64x1024_32_0_0
  copyIn (sem4 cc0_scratch2 3 inb_S4_S1_3) 48 inb_S64x64x1024_S16x64x1024_48_0_0
  semSignalWord (⟨k0_dev1 d, k0_dev1_lt d⟩ : Dev nD) barS 1#32
  semSignalWord (⟨k0_dev2 d, k0_dev2_lt d⟩ : Dev nD) barS 1#32
  semSignalWord (⟨k0_dev3 d, k0_dev3_lt d⟩ : Dev nD) barS 1#32
  semWaitWord barS 3#32

/-- The chunks' in-place scans. -/
def chunksP : KProg F PUnit := do
  waitIn (sem4 cc0_scratch2 0 inb_S4_S1_0) 0 inb_S64x64x1024_S16x64x1024_0_0_0
  scanP 0 k0_pay1 k0_pay2 k0_pay3 k0_pay4 k0_pay5 k0_pay6 (by decide) (by decide) (by decide) (by decide) (by decide) (by decide)
    (by decide) (by decide) (by decide) (by decide) (by decide) (by decide)
  waitIn (sem4 cc0_scratch2 1 inb_S4_S1_1) 16 inb_S64x64x1024_S16x64x1024_16_0_0
  scanP 16 k0_pay7 k0_pay8 k0_pay9 k0_pay10 k0_pay11 k0_pay12 (by decide) (by decide) (by decide) (by decide) (by decide) (by decide)
    (by decide) (by decide) (by decide) (by decide) (by decide) (by decide)
  waitIn (sem4 cc0_scratch2 2 inb_S4_S1_2) 32 inb_S64x64x1024_S16x64x1024_32_0_0
  scanP 32 k0_pay13 k0_pay14 k0_pay15 (fun a b => k0_pay17 (k0_pay16 a b)) k0_pay18 k0_pay19 (by decide) (by decide) (by decide) (by decide)
    (by decide) (by decide) (by decide) (by decide) (by decide) (by decide) (by decide) (by decide)
  waitIn (sem4 cc0_scratch2 3 inb_S4_S1_3) 48 inb_S64x64x1024_S16x64x1024_48_0_0
  scanP 48 (fun a b => k0_pay21 (k0_pay20 a b)) k0_pay22 k0_pay23 k0_pay24 (fun a b => k0_pay26 (k0_pay25 a b)) k0_pay27 (by decide) (by decide)
    (by decide) (by decide) (by decide) (by decide) (by decide) (by decide) (by decide) (by decide) (by decide) (by decide)

/-- The exchange of the totals: the three copies sent, then every one waited for on both sides. -/
def exchangeP (d : Dev nD) : KProg F PUnit := do
  sendP (⟨k0_dev4 d, k0_dev4_lt d⟩ : Dev nD) (sem3 cc0_scratch4 0 inb_S3_S1_0) (sem3 cc0_scratch5 0 inb_S3_S1_0) 1 inb_S4x1024_S1x1024_1_0
  sendP (⟨k0_dev5 d, k0_dev5_lt d⟩ : Dev nD) (sem3 cc0_scratch4 1 inb_S3_S1_1) (sem3 cc0_scratch5 1 inb_S3_S1_1) 2 inb_S4x1024_S1x1024_2_0
  sendP (⟨k0_dev6 d, k0_dev6_lt d⟩ : Dev nD) (sem3 cc0_scratch4 2 inb_S3_S1_2) (sem3 cc0_scratch5 2 inb_S3_S1_2) 3 inb_S4x1024_S1x1024_3_0
  sentP (sem3 cc0_scratch4 0 inb_S3_S1_0) 1 inb_S4x1024_S1x1024_1_0
  gotP (sem3 cc0_scratch5 0 inb_S3_S1_0) 1 inb_S4x1024_S1x1024_1_0
  sentP (sem3 cc0_scratch4 1 inb_S3_S1_1) 2 inb_S4x1024_S1x1024_2_0
  gotP (sem3 cc0_scratch5 1 inb_S3_S1_1) 2 inb_S4x1024_S1x1024_2_0
  sentP (sem3 cc0_scratch4 2 inb_S3_S1_2) 3 inb_S4x1024_S1x1024_3_0
  gotP (sem3 cc0_scratch5 2 inb_S3_S1_2) 3 inb_S4x1024_S1x1024_3_0

/-- The acknowledgements sent. -/
def acksP (d : Dev nD) : KProg F PUnit := do
  semSignalWord (⟨k0_dev7 d, k0_dev7_lt d⟩ : Dev nD) ackS 1#32
  semSignalWord (⟨k0_dev8 d, k0_dev8_lt d⟩ : Dev nD) ackS 1#32
  semSignalWord (⟨k0_dev9 d, k0_dev9_lt d⟩ : Dev nD) ackS 1#32

/-- The final scaling, the copies out and the wait for the acknowledgements. -/
def finishP (v2 : BitVec 32) (p : FVec F S64x1024 .f32) (g : Vec F S4x1024 .f32) : KProg F PUnit := do
  scaleP 0 inb_S64x64x1024_S16x64x1024_0_0_0 (fun a => k0_pay34 v2 p g a)
  copyOut (sem4 cc0_scratch3 0 inb_S4_S1_0) 0 inb_S64x64x1024_S16x64x1024_0_0_0
  scaleP 16 inb_S64x64x1024_S16x64x1024_16_0_0 (fun a => k0_pay36 a (k0_pay35 v2 p g))
  copyOut (sem4 cc0_scratch3 1 inb_S4_S1_1) 16 inb_S64x64x1024_S16x64x1024_16_0_0
  scaleP 32 inb_S64x64x1024_S16x64x1024_32_0_0 (fun a => k0_pay37 (k0_pay33 v2 p g) a)
  copyOut (sem4 cc0_scratch3 2 inb_S4_S1_2) 32 inb_S64x64x1024_S16x64x1024_32_0_0
  scaleP 48 inb_S64x64x1024_S16x64x1024_48_0_0 (fun a => k0_pay39 (k0_pay38 (k0_pay33 v2 p g) a))
  copyOut (sem4 cc0_scratch3 3 inb_S4_S1_3) 48 inb_S64x64x1024_S16x64x1024_48_0_0
  waitOut (sem4 cc0_scratch3 0 inb_S4_S1_0) 0 inb_S64x64x1024_S16x64x1024_0_0_0
  waitOut (sem4 cc0_scratch3 1 inb_S4_S1_1) 16 inb_S64x64x1024_S16x64x1024_16_0_0
  waitOut (sem4 cc0_scratch3 2 inb_S4_S1_2) 32 inb_S64x64x1024_S16x64x1024_32_0_0
  waitOut (sem4 cc0_scratch3 3 inb_S4_S1_3) 48 inb_S64x64x1024_S16x64x1024_48_0_0
  semWaitWord ackS 3#32

/-- The whole body. -/
def phases : KProg F PUnit := do
  let d ← Prog.lift .deviceId
  enterP d
  chunksP
  let v ← lastRows
  putTotal v
  exchangeP d
  let g ← allTotals
  acksP d
  finishP (myWord d) (blockScan v) g

set_option maxRecDepth 65536 in
set_option maxHeartbeats 4000000 in
/-- The printed body, called as the launch calls it, is the phases in turn. -/
theorem body_eq (t : Fin cfg0.N) : bodyAt0 (F := F) t = phases := by
  rw [show bodyAt0 (F := F) t = cc0_body_skel (F := F) (Memref.whole main_v1) (Memref.isWhole_whole _) (Memref.whole main_v2) (Memref.isWhole_whole _)
    (Memref.whole cc0_scratch0) (Memref.isWhole_whole _) (Memref.whole cc0_scratch1) (Memref.isWhole_whole _) cc0_scratch2 cc0_scratch3 cc0_scratch4
    cc0_scratch5 cc0_scratch6 from rfl]
  rfl

end Cert.Cumprod

end
-- ==== Proof.Contents.lean ====
/-
What the working buffer holds: the chunks of its sixteen blocks, the doubling stage as a function of the whole buffer's
contents, and the run of one stage, of a chunk's six stages and of the final scaling.
-/
module

public import proofs.«01_k».proof.Proof.Text
public import Idealize.ShloMosaic.Lib.Transfers
public import Idealize.ShloMosaic.Lib.Rounds
public import Idealize.ShloMosaic.Lib.Tactic
public import Idealize.ShloMosaic.Lib.ViewIndex
public import Idealize.ShloMosaic.Lib.Pipeline.Kit
public import Idealize.ShloMosaic.Lib.Pipeline.Value

@[expose] public section

set_option maxRecDepth 16384

noncomputable section

namespace Cert.Cumprod

open Cert.KernelIdeal Cert.KernelIdeal.Gen
open Idealize.ShloMosaic Idealize.ShloMosaic.TcCoe
open Idealize.SL Idealize.SL.Sem
open Idealize.SL.BI (sProp Storable bigSep)
open scoped Idealize.SL.BI
open Idealize.SL.BI.BIBase Idealize.SL.BI.Laws Idealize.SL.ProofMode
open Idealize.SL.RA

variable {F : FTy → Type} [FloatOps F]

/-! ## The resource algebra -/

/-- The algebra's user part: the launch's cells, the exchange's cells, and the counters of the local copies. -/
abbrev XR : Type := Rounds.URounds (GSem nD τ sig) (Fin 3)
abbrev UU : Type := UR sig nD τ × (XR × Counters)

local notation "𝕄" => MT nD τ sig Unit (Elt F) ℕ UU ℕ

/-- The part of the launch's cells, and of the exchange's. -/
abbrev EP : Emb (UR sig nD τ) (MT nD τ sig Unit (Elt F) ℕ UU ℕ) := embL
def ER : Emb XR (MT nD τ sig Unit (Elt F) ℕ UU ℕ) := Emb.inl.trans embR
abbrev EC : UEmb Counters (MT nD τ sig Unit (Elt F) ℕ UU ℕ) := countersEmb

instance ER_landsIn : (ER (F := F)).LandsIn (upEmb : UEmb _ 𝕄) := by unfold ER; infer_instance

abbrev 𝒱₀ : Variants := Variants.none

/-! ## Chunks and stages -/

/-- What a buffer of 64 blocks of 64 rows holds. -/
abbrev Big (F : FTy → Type) : Type := S64x64x1024.Idx → Elt F .f32

/-- The places of the sixteen blocks from block `o` on. -/
def chunk (o : ℕ) : Finset S64x64x1024.Idx := Finset.univ.filter fun i => o ≤ (i 0).val ∧ (i 0).val < o + 16

theorem mem_chunk (o : ℕ) (i : S64x64x1024.Idx) : i ∈ chunk o ↔ o ≤ (i 0).val ∧ (i 0).val < o + 16 := by simp [chunk]

/-- The place `s` rows before, in the same block. -/
def back (s : ℕ) (i : S64x64x1024.Idx) : S64x64x1024.Idx :=
  Function.update i 1 ⟨(i 1).val - s, Nat.lt_of_le_of_lt (Nat.sub_le _ _) (i 1).isLt⟩

/-- One doubling stage: every row from `s` on is multiplied by the row `s` before it. -/
def stage (s : ℕ) (f : Big F) : Big F := fun i => if s ≤ (i 1).val then FloatOps.mulf (F := F) (φ := .f32) (f i) (f (back s i)) else f i

/-- The six stages. -/
def scanned (f : Big F) : Big F := stage 32 (stage 16 (stage 8 (stage 4 (stage 2 (stage 1 f)))))

theorem chunkR_set (o : ℕ) (h : InB o 0 S16x64x1024.size) : (chunkR o h).set = chunk o := by
  ext i
  rw [Rect.mem_set_unit, mem_chunk]
  refine ⟨fun H => H 0, fun H a => ?_⟩
  match a with
  | 0 => exact H
  | 1 => exact ⟨Nat.zero_le _, by have := (i 1).isLt; simpa using this⟩
  | 2 => exact ⟨Nat.zero_le _, by have := (i 2).isLt; simpa using this⟩

/-- The rows from `s` on of a chunk. -/
theorem rows_subset (o s : ℕ) (size : Fin 3 → ℕ) (h16 : size 0 = 16) (hs : InB o s size) :
    (Rect.unit (s := S64x64x1024) ![o, s, 0] size hs).set ⊆ chunk o := by
  intro i hi
  rw [Rect.mem_set_unit] at hi
  rw [mem_chunk]
  have := hi 0
  simpa [h16] using this

theorem rows_subset' (o s : ℕ) (size : Fin 3 → ℕ) (h16 : size 0 = 16) (hs : InB o s size) :
    (bM : Memref sig .tc .vmem S64x64x1024 .f32).view.setOn (Rect.unit (s := S64x64x1024) ![o, s, 0] size hs).toLoadRect.set ⊆ chunk o := by
  intro i hi
  obtain ⟨j, hj, rfl⟩ := Finset.mem_map.mp hi
  exact rows_subset o s size h16 hs hj

theorem rows_subset'' (o s : ℕ) (size : Fin 3 → ℕ) (h16 : size 0 = 16) (hs : InB o s size) :
    ((bM : Memref sig .tc .vmem S64x64x1024 .f32).access (Rect.unit (s := S64x64x1024) ![o, s, 0] size hs)).setOn Finset.univ ⊆ chunk o := by
  rw [View.setOn_univ]
  refine Finset.Subset.trans (Finset.Subset.refl _) ?_
  show ((View.whole cc0_scratch0).slice (Rect.unit (s := S64x64x1024) ![o, s, 0] size hs)).set ⊆ chunk o
  rw [View.set_slice_whole]
  exact rows_subset o s size h16 hs

/-- What a stage's store leaves agrees, on its chunk, with the stage of what it found. -/
theorem stage_eq (o s : ℕ) (size : Fin 3 → ℕ) (h16 : size 0 = 16) (h64 : s + size 1 = 64) (hn : size 2 = 1024)
    (hs : InB o s size) (h0 : InB o 0 size) (w : Vals F size → Vals F size → Vals F size)
    (hw : ∀ a b, w a b = fun x => FloatOps.mulf (F := F) (φ := .f32) (a x) (b x)) (f : Big F) (i : S64x64x1024.Idx) (hi : i ∈ chunk o) :
    ((bM : Memref sig .tc .vmem S64x64x1024 .f32).access (Rect.unit (s := S64x64x1024) ![o, s, 0] size hs)).write (Elt F) f
        (w (bM.view.readAt (Elt F) (Rect.unit (s := S64x64x1024) ![o, s, 0] size hs).toLoadRect f)
           (bM.view.readAt (Elt F) (Rect.unit (s := S64x64x1024) ![o, 0, 0] size h0).toLoadRect f)) Finset.univ i
      = stage s f i := by
  rw [mem_chunk] at hi
  rw [hw]
  refine (congrFun (View.write_whole_slice_unit cc0_scratch0 ![o, s, 0] size hs f _) i).trans ?_
  unfold updateSlice stage
  by_cases hsi : s ≤ (i 1).val
  · have h1 := (i 1).isLt
    have h2 := (i 2).isLt
    have hmem : ∀ a, (![o, s, 0] : Fin 3 → ℕ) a ≤ (i a).val ∧ (i a).val < (![o, s, 0] : Fin 3 → ℕ) a + size a := by
      intro a
      match a with
      | 0 => exact ⟨hi.1, by rw [h16]; exact hi.2⟩
      | 1 => exact ⟨hsi, by show _ < s + _; rw [h64]; exact h1⟩
      | 2 => exact ⟨Nat.zero_le _, by rw [hn]; show _ < 0 + 1024; rw [Nat.zero_add]; exact h2⟩
    refine (dif_pos hmem).trans (Eq.trans ?_ (if_pos hsi).symm)
    refine congrArg₂ _ ?_ ?_
    · refine congrArg f (Shape.idx3_ext ?_ ?_ ?_)
      · show o + 1 * ((i 0).val - o) = _; omega
      · show s + 1 * ((i 1).val - s) = _; omega
      · show 0 + 1 * ((i 2).val - 0) = _; omega
    · refine congrArg f (Shape.idx3_ext ?_ ?_ ?_)
      · show o + 1 * ((i 0).val - o) = (i 0).val; omega
      · show 0 + 1 * ((i 1).val - s) = (i 1).val - s; omega
      · show 0 + 1 * ((i 2).val - 0) = (i 2).val; omega
  · exact (dif_neg (fun H => hsi (H 1).1)).trans (if_neg hsi).symm

/-- The working buffer of device `c` on the places `S`. -/
abbrev bPts (c : Dev nD) (S : Finset S64x64x1024.Idx) (f : Big F) : sProp 𝕄 :=
  (bM : Memref sig .tc .vmem S64x64x1024 .f32).view.loc (c : Thread nD τ) ↦[S]{fullShare} f

/-- The run of a stage on its chunk. -/
theorem wp_stage (c : Dev nD) (o s : ℕ) (size : Fin 3 → ℕ) (h16 : size 0 = 16) (h64 : s + size 1 = 64) (hn : size 2 = 1024)
    (hs : InB o s size) (h0 : InB o 0 size) (hne : 0 < (⟨3, size⟩ : Shape).numel) (w : Vals F size → Vals F size → Vals F size)
    (hw : ∀ a b, w a b = fun x => FloatOps.mulf (F := F) (φ := .f32) (a x) (b x)) (f : Big F)
    {α : Type} (k : PUnit → KProg F α) (Q : α → sProp 𝕄) :
    bPts c (chunk o) f ⊢ iprop((bPts c (chunk o) (stage s f) -∗ wp frame (wpE (defs₀ (F := F)) 𝒱₀ c none) Set.univ (k ⟨⟩) Q)
      -∗ wp frame (wpE (defs₀ (F := F)) 𝒱₀ c none) Set.univ ((stageP o s size w hs h0 hne).bind k) Q) := by
  simp only [stageP, Prog.lift, Prog.bind_op, Prog.bind_ret, bind, Prog.pure_eq_ret]
  iintro Hb Hk
  iapply (wp_load 𝒱₀ (c : Thread nD τ) none Set.univ (rows_subset' o s size h16 hs)) $$ Hb
  iintro Hb
  iapply (wp_load 𝒱₀ (c : Thread nD τ) none Set.univ (rows_subset' o 0 size h16 h0)) $$ Hb
  iintro Hb
  iapply (wp_load 𝒱₀ (c : Thread nD τ) none Set.univ (rows_subset' o s size h16 hs)) $$ Hb
  iintro Hb
  iapply (wp_store 𝒱₀ (c : Thread nD τ) none Set.univ (rows_subset'' o s size h16 hs)) $$ Hb
  iintro Hb
  iapply Hk
  iapply (Entails.of_eq (pointsTo_congr (stage_eq o s size h16 h64 hn hs h0 w hw f))) $$ Hb

/-- The six stages of a chunk. -/
theorem wp_scan (c : Dev nD) (o : ℕ)
    (w1 : Vals F ![16, 63, 1024] → Vals F ![16, 63, 1024] → Vals F ![16, 63, 1024])
    (w2 : Vals F ![16, 62, 1024] → Vals F ![16, 62, 1024] → Vals F ![16, 62, 1024])
    (w4 : Vals F ![16, 60, 1024] → Vals F ![16, 60, 1024] → Vals F ![16, 60, 1024])
    (w8 : Vals F ![16, 56, 1024] → Vals F ![16, 56, 1024] → Vals F ![16, 56, 1024])
    (w16 : Vals F ![16, 48, 1024] → Vals F ![16, 48, 1024] → Vals F ![16, 48, 1024])
    (w32 : Vals F ![16, 32, 1024] → Vals F ![16, 32, 1024] → Vals F ![16, 32, 1024])
    (h1 : InB o 1 ![16, 63, 1024]) (g1 : InB o 0 ![16, 63, 1024]) (h2 : InB o 2 ![16, 62, 1024]) (g2 : InB o 0 ![16, 62, 1024])
    (h4 : InB o 4 ![16, 60, 1024]) (g4 : InB o 0 ![16, 60, 1024]) (h8 : InB o 8 ![16, 56, 1024]) (g8 : InB o 0 ![16, 56, 1024])
    (h16 : InB o 16 ![16, 48, 1024]) (g16 : InB o 0 ![16, 48, 1024]) (h32 : InB o 32 ![16, 32, 1024]) (g32 : InB o 0 ![16, 32, 1024])
    (e1 : ∀ a b, w1 a b = fun x => FloatOps.mulf (F := F) (φ := .f32) (a x) (b x))
    (e2 : ∀ a b, w2 a b = fun x => FloatOps.mulf (F := F) (φ := .f32) (a x) (b x))
    (e4 : ∀ a b, w4 a b = fun x => FloatOps.mulf (F := F) (φ := .f32) (a x) (b x))
    (e8 : ∀ a b, w8 a b = fun x => FloatOps.mulf (F := F) (φ := .f32) (a x) (b x))
    (e16 : ∀ a b, w16 a b = fun x => FloatOps.mulf (F := F) (φ := .f32) (a x) (b x))
    (e32 : ∀ a b, w32 a b = fun x => FloatOps.mulf (F := F) (φ := .f32) (a x) (b x))
    (f : Big F) {α : Type} (k : PUnit → KProg F α) (Q : α → sProp 𝕄) :
    bPts c (chunk o) f ⊢ iprop((bPts c (chunk o) (scanned f) -∗ wp frame (wpE (defs₀ (F := F)) 𝒱₀ c none) Set.univ (k ⟨⟩) Q)
      -∗ wp frame (wpE (defs₀ (F := F)) 𝒱₀ c none) Set.univ
          ((scanP o w1 w2 w4 w8 w16 w32 h1 g1 h2 g2 h4 g4 h8 g8 h16 g16 h32 g32).bind k) Q) := by
  unfold scanP scanned
  simp only [bind, Prog.bind_assoc]
  iintro Hb Hk
  iapply (wp_stage c o 1 _ rfl rfl rfl h1 g1 h_S16x63x1024 w1 e1 f) $$ Hb
  iintro Hb
  iapply (wp_stage c o 2 _ rfl rfl rfl h2 g2 h_S16x62x1024 w2 e2 _) $$ Hb
  iintro Hb
  iapply (wp_stage c o 4 _ rfl rfl rfl h4 g4 h_S16x60x1024 w4 e4 _) $$ Hb
  iintro Hb
  iapply (wp_stage c o 8 _ rfl rfl rfl h8 g8 h_S16x56x1024 w8 e8 _) $$ Hb
  iintro Hb
  iapply (wp_stage c o 16 _ rfl rfl rfl h16 g16 h_S16x48x1024 w16 e16 _) $$ Hb
  iintro Hb
  iapply (wp_stage c o 32 _ rfl rfl rfl h32 g32 h_S16x32x1024 w32 e32 _) $$ Hb
  iintro Hb
  iapply Hk $$ Hb

/-! ## The final scaling -/

/-- The block and the column of a place. -/
def colOf (i : S64x64x1024.Idx) : S64x1024.Idx := fun a => match a with
  | 0 => i 0
  | 1 => i 2

/-- Every row of a block is multiplied by the block's factor. -/
def scaled (p : S64x1024.Idx → Elt F .f32) (f : Big F) : Big F := fun i => FloatOps.mulf (F := F) (φ := .f32) (f i) (p (colOf i))

theorem scale_eq (o : ℕ) (h : InB o 0 S16x64x1024.size) (p : S64x1024.Idx → Elt F .f32)
    (w : Vec F S16x64x1024 .f32 → Vec F S16x64x1024 .f32)
    (hw : ∀ a x i, (i 0).val = o + (x 0).val → (i 1).val = (x 1).val → (i 2).val = (x 2).val →
      w a x = FloatOps.mulf (F := F) (φ := .f32) (a x) (p (colOf i)))
    (f : Big F) (i : S64x64x1024.Idx) (hi : i ∈ chunk o) :
    ((bM : Memref sig .tc .vmem S64x64x1024 .f32).access (chunkR o h)).write (Elt F) f
        (w (bM.view.readAt (Elt F) (chunkR o h).toLoadRect f)) Finset.univ i
      = scaled p f i := by
  rw [mem_chunk] at hi
  refine (congrFun (View.write_whole_slice_unit cc0_scratch0 ![o, 0, 0] S16x64x1024.size h f _) i).trans ?_
  unfold updateSlice scaled
  have h1 := (i 1).isLt
  have h2 := (i 2).isLt
  have hmem : ∀ a, (![o, 0, 0] : Fin 3 → ℕ) a ≤ (i a).val ∧ (i a).val < (![o, 0, 0] : Fin 3 → ℕ) a + S16x64x1024.size a := by
    intro a
    match a with
    | 0 => exact hi
    | 1 => exact ⟨Nat.zero_le _, by show _ < 0 + 64; rw [Nat.zero_add]; exact h1⟩
    | 2 => exact ⟨Nat.zero_le _, by show _ < 0 + 1024; rw [Nat.zero_add]; exact h2⟩
  refine (dif_pos hmem).trans ?_
  refine (hw _ _ i ?_ ?_ ?_).trans ?_
  · show (i 0).val = o + ((i 0).val - o); omega
  · rfl
  · rfl
  · refine congrArg₂ _ (congrArg f (Shape.idx3_ext ?_ ?_ ?_)) rfl
    · show o + 1 * ((i 0).val - o) = _; omega
    · show 0 + 1 * ((i 1).val - 0) = _; omega
    · show 0 + 1 * ((i 2).val - 0) = _; omega

/-- The run of the scaling of a chunk. -/
theorem wp_scale (c : Dev nD) (o : ℕ) (h : InB o 0 S16x64x1024.size) (p : S64x1024.Idx → Elt F .f32)
    (w : Vec F S16x64x1024 .f32 → Vec F S16x64x1024 .f32)
    (hw : ∀ a x i, (i 0).val = o + (x 0).val → (i 1).val = (x 1).val → (i 2).val = (x 2).val →
      w a x = FloatOps.mulf (F := F) (φ := .f32) (a x) (p (colOf i)))
    (f : Big F) {α : Type} (k : PUnit → KProg F α) (Q : α → sProp 𝕄) :
    bPts c (chunk o) f ⊢ iprop((bPts c (chunk o) (scaled p f) -∗ wp frame (wpE (defs₀ (F := F)) 𝒱₀ c none) Set.univ (k ⟨⟩) Q)
      -∗ wp frame (wpE (defs₀ (F := F)) 𝒱₀ c none) Set.univ ((scaleP o h w).bind k) Q) := by
  simp only [scaleP, Prog.lift, Prog.bind_op, Prog.bind_ret, bind, Prog.pure_eq_ret]
  iintro Hb Hk
  iapply (wp_load 𝒱₀ (c : Thread nD τ) none Set.univ (rows_subset' o 0 S16x64x1024.size rfl h)) $$ Hb
  iintro Hb
  iapply (wp_load 𝒱₀ (c : Thread nD τ) none Set.univ (rows_subset' o 0 S16x64x1024.size rfl h)) $$ Hb
  iintro Hb
  iapply (wp_store 𝒱₀ (c : Thread nD τ) none Set.univ (rows_subset'' o 0 S16x64x1024.size rfl h)) $$ Hb
  iintro Hb
  iapply Hk
  iapply (Entails.of_eq (pointsTo_congr (scale_eq o h p w hw f))) $$ Hb

end Cert.Cumprod

end
-- ==== Proof.Protocol.lean ====
/-
The exchange's protocol: the cells every device waits on, what each payment hands over, what every device owes at the
start, and the order in which waits may be entered.

Device `c` reaches the other three as `pr j c`, `j` in 0, 1, 2: one, two and three places further on the ring.
-/
module

public import proofs.«01_k».proof.Proof.Contents
public import Idealize.ShloMosaic.Lib.Ring.Trips

@[expose] public section

set_option maxRecDepth 16384

noncomputable section

namespace Cert.Cumprod

open Cert.KernelIdeal Cert.KernelIdeal.Gen
open Idealize.ShloMosaic Idealize.ShloMosaic.TcCoe
open Idealize.SL Idealize.SL.Sem
open Idealize.SL.BI (sProp Storable bigSep)
open scoped Idealize.SL.BI
open Idealize.SL.BI.BIBase Idealize.SL.BI.Laws Idealize.SL.ProofMode
open Idealize.SL.RA
open Idealize.ShloMosaic.Rounds

variable {F : FTy → Type} [FloatOps F]

local notation "𝕄" => MT nD τ sig Unit (Elt F) ℕ UU ℕ

/-! ## Devices -/

/-- The device `j + 1` places further on. -/
def pr (j : Fin 3) (c : Dev nD) : Dev nD := ⟨(c.val + j.val + 1) % 4, Nat.mod_lt _ (by decide)⟩
/-- The device whose total row `k` of device `c` holds. -/
def src (k : Fin 4) (c : Dev nD) : Dev nD := ⟨(c.val + (4 - k.val)) % 4, Nat.mod_lt _ (by decide)⟩

theorem pr_rev (j : Fin 3) (c : Dev nD) : pr j.rev (pr j c) = c := by revert j c; decide
theorem rev_pr (j : Fin 3) (c : Dev nD) : pr j (pr j.rev c) = c := by revert j c; decide
theorem src_pr (j : Fin 3) (c : Dev nD) : src j.succ (pr j c) = c := by revert j c; decide
theorem src_zero (c : Dev nD) : src 0 c = c := by revert c; decide

/-- Moving `j + 1` places on is a bijection. -/
def prE (j : Fin 3) : Dev nD ≃ Dev nD := ⟨pr j, pr j.rev, pr_rev j, rev_pr j⟩

/-! ## Semaphores and cells -/

abbrev inS (i : Fin 4) : DmaSem sig := ⟨i.val, by have := i.isLt; show _ < 14; omega⟩
abbrev outS (i : Fin 4) : DmaSem sig := ⟨4 + i.val, by have := i.isLt; show _ < 14; omega⟩
abbrev sendS (j : Fin 3) : DmaSem sig := ⟨8 + j.val, by have := j.isLt; show _ < 14; omega⟩
abbrev recvS (j : Fin 3) : DmaSem sig := ⟨11 + j.val, by have := j.isLt; show _ < 14; omega⟩

abbrev barCell (c : Dev nD) : GSem nD τ sig := ((c : Thread nD τ), .reg barS)
abbrev ackCell (c : Dev nD) : GSem nD τ sig := ((c : Thread nD τ), .reg ackS)
abbrev sendCell (c : Dev nD) (j : Fin 3) : GSem nD τ sig := ((c : Thread nD τ), .dma (sendS j))
abbrev recvCell (c : Dev nD) (j : Fin 3) : GSem nD τ sig := ((c : Thread nD τ), .dma (recvS j))

/-! ## The gathered totals -/

theorem rowIn (k : Fin 4) : ∀ a, (![k.val, 0] : Fin 2 → ℕ) a + S1x1024.size a ≤ S4x1024.size a := by revert k; decide

/-- Row `k`, and its places. -/
abbrev row (k : Fin 4) : Memref sig .tc .vmem S1024 .f32 := rowM k.val (rowIn k)
abbrev rset (k : Fin 4) : Finset S4x1024.Idx := (row k).view.set

/-- The units one remote copy of a row credits. -/
abbrev N : ℕ := (row 0).view.dmaCredit
theorem N_pos : 0 < N := View.dmaCredit_pos _ (by decide)

/-- The last rows of the blocks, as the body loads them. -/
def lastOf (f : Big F) : Vec F S64x1x1024 .f32 := bM.view.readAt (Elt F)
  (Rect.unit (s := S64x64x1024) ![0, 63, 0] S64x1x1024.size inb_S64x64x1024_S64x1x1024_0_63_0).toLoadRect f

/-- Device `c`'s total, from the operand every device holds. -/
def tot (X : Dev nD → Big F) (c : Dev nD) : FVec F S1x1024 .f32 := k0_pay29 (lastOf (scanned (X c)))

/-- A column of a row. -/
def col (n : Fin 1024) : S1x1024.Idx := fun a => match a with
  | 0 => (0 : Fin 1)
  | 1 => n

/-- The four totals as device `c` gathers them. -/
def gath (X : Dev nD → Big F) (c : Dev nD) : S4x1024.Idx → Elt F .f32 := fun i => tot X (src (i 0) c) (col (i 1))

/-- Device `c`'s gathered totals on the places `S`, at a share. -/
abbrev gPts (c : Dev nD) (S : Finset S4x1024.Idx) (q : PosShare TreeShare) (f : S4x1024.Idx → Elt F .f32) : sProp 𝕄 :=
  (gM : Memref sig .tc .vmem S4x1024 .f32).view.loc (c : Thread nD τ) ↦[S]{q} f

variable (X : Dev nD → Big F)

/-! ## The schedule -/

/-- Paid to device `c`'s barrier by the device it sends to as `j`: that device's row for it, and that its receiving and
    acknowledgement cells are open. -/
def barPay (c : Dev nD) (j : Fin 3) : sProp 𝕄 :=
  iprop((∃ f, gPts (pr j c) (rset j.succ) fullShare f) ∗ reached ER (recvCell (pr j c) j) 0 ∗ reached ER (ackCell (pr j c)) 0)
/-- Paid by the copy that arrives: the row, holding its sender's total. -/
def recvPay (c : Dev nD) (j : Fin 3) : sProp 𝕄 := gPts c (rset j.succ) fullShare (gath X c)
/-- Paid by the copy that left: the share of row 0 it read. -/
def sendPay (c : Dev nD) (j : Fin 3) : sProp 𝕄 := gPts c (rset 0) (Ring.shares3 fullShare j) (gath X c)

/-- One round: three duties on every barrier and acknowledgement cell, one on every sending and receiving cell. -/
def sched : Rounds.Schedule (GSem nD τ sig) (Fin 3) 𝕄 where
  duties g r := if r = 0 ∧ g.1.2 = .tc then (match g.2 with
    | .reg _ => Finset.univ
    | .dma q => if 8 ≤ q.val then {0} else ∅) else ∅
  unitless _ := False
  amount g _ _ := match g.2 with
    | .reg _ => 1
    | .dma _ => N
  payload g _ d := match g.2 with
    | .reg s => if s = barS then barPay g.1.1 d else iprop(emp)
    | .dma q => if h : 11 ≤ q.val then recvPay X g.1.1 ⟨q.val - 11, by have : q.val < 14 := q.isLt; omega⟩
        else if h' : 8 ≤ q.val then sendPay X g.1.1 ⟨q.val - 8, by omega⟩ else iprop(emp)
  amount_pos g _ _ _ := by
    rcases g with ⟨_, _ | _⟩
    · exact Nat.one_pos
    · exact N_pos

instance payload_storable (g : GSem nD τ sig) (r : ℕ) (d : Fin 3) : BI.Storable (upEmb : UEmb _ 𝕄) ((sched X).payload g r d) := by
  dsimp only [sched]
  unfold barPay recvPay sendPay
  (repeat' split) <;> infer_instance

theorem duties_bar (c : Dev nD) : (sched X).duties (barCell c) 0 = Finset.univ := rfl
theorem duties_ack (c : Dev nD) : (sched X).duties (ackCell c) 0 = Finset.univ := rfl
theorem duties_send (c : Dev nD) (j : Fin 3) : (sched X).duties (sendCell c j) 0 = {0} := by
  dsimp only [sched]; rw [if_pos ⟨rfl, rfl⟩]; exact if_pos (Nat.le_add_right _ _)
theorem duties_recv (c : Dev nD) (j : Fin 3) : (sched X).duties (recvCell c j) 0 = {0} := by
  dsimp only [sched]; rw [if_pos ⟨rfl, rfl⟩]; exact if_pos (by show 8 ≤ 11 + j.val; omega)
theorem duties_later (g : GSem nD τ sig) : ∀ r, 1 ≤ r → (sched X).duties g r = ∅ :=
  fun r hr => by dsimp only [sched]; exact if_neg (fun h => by omega)

theorem payload_bar (c : Dev nD) (d : Fin 3) : (sched X).payload (barCell c) 0 d = barPay c d := by dsimp only [sched]; exact if_pos rfl
theorem payload_ack (c : Dev nD) (d : Fin 3) : (sched X).payload (ackCell c) 0 d = iprop(emp) := by
  dsimp only [sched]; exact if_neg (by decide)
theorem payload_send (c : Dev nD) (j d : Fin 3) : (sched X).payload (sendCell c j) 0 d = sendPay X c j := by
  have hj := j.isLt
  dsimp only [sched]
  rw [dif_neg (show ¬ 11 ≤ 8 + j.val by omega), dif_pos (Nat.le_add_right _ _)]
  exact congrArg (sendPay X c) (Fin.ext (Nat.add_sub_cancel_left ..))
theorem payload_recv (c : Dev nD) (j d : Fin 3) : (sched X).payload (recvCell c j) 0 d = recvPay X c j := by
  dsimp only [sched]
  rw [dif_pos (Nat.le_add_right _ _)]
  exact congrArg (recvPay X c) (Fin.ext (Nat.add_sub_cancel_left ..))

theorem expect_bar (c : Dev nD) : (sched X).expect (barCell c) 0 = 3 := by
  unfold Schedule.expect Schedule.amountOf; rw [duties_bar]; rfl
theorem expect_ack (c : Dev nD) : (sched X).expect (ackCell c) 0 = 3 := by
  unfold Schedule.expect Schedule.amountOf; rw [duties_ack]; rfl
theorem expect_send (c : Dev nD) (j : Fin 3) : (sched X).expect (sendCell c j) 0 = N := by
  unfold Schedule.expect Schedule.amountOf; rw [duties_send, Finset.sum_singleton]; rfl
theorem expect_recv (c : Dev nD) (j : Fin 3) : (sched X).expect (recvCell c j) 0 = N := by
  unfold Schedule.expect Schedule.amountOf; rw [duties_recv, Finset.sum_singleton]; rfl

/-- Three assertions side by side. -/
abbrev three (Φ : Fin 3 → sProp 𝕄) : sProp 𝕄 := iprop(Φ 0 ∗ Φ 1 ∗ Φ 2)

theorem bigSep_three (Φ : Fin 3 → sProp 𝕄) : bigSep Finset.univ Φ = three Φ := by
  rw [BI.bigSep_eq_bigSepL_of_eq [(0 : Fin 3), 1, 2] (by decide) (by decide)]; rfl

theorem rest_bar (c : Dev nD) : bigSep ((sched X).duties (barCell c) 0 \ ∅) (fun u => (sched X).payload (barCell c) 0 u) = three (barPay c) := by
  rw [Finset.sdiff_empty, duties_bar, bigSep_three]
  simp only [payload_bar]
theorem rest_send (c : Dev nD) (j : Fin 3) :
    bigSep ((sched X).duties (sendCell c j) 0 \ ∅) (fun u => (sched X).payload (sendCell c j) 0 u) = sendPay X c j := by
  rw [Finset.sdiff_empty, duties_send, BI.bigSep_singleton, payload_send]
theorem rest_recv (c : Dev nD) (j : Fin 3) :
    bigSep ((sched X).duties (recvCell c j) 0 \ ∅) (fun u => (sched X).payload (recvCell c j) 0 u) = recvPay X c j := by
  rw [Finset.sdiff_empty, duties_recv, BI.bigSep_singleton, payload_recv]

/-! ## What is owed, and the levels -/

/-- The acknowledgements; before them the rows; before those the barrier's units. The next payment is the last summand. -/
def oA (c : Dev nD) : CellTallies nD τ sig Unit :=
  tallyAt (ackCell (pr 2 c)) () 1 + tallyAt (ackCell (pr 1 c)) () 1 + tallyAt (ackCell (pr 0 c)) () 1
def oR (c : Dev nD) : CellTallies nD τ sig Unit :=
  oA c + tallyAt (recvCell (pr 2 c) 2) () N + tallyAt (recvCell (pr 1 c) 1) () N + tallyAt (recvCell (pr 0 c) 0) () N
def O₀ (c : Dev nD) : CellTallies nD τ sig Unit :=
  oR c + tallyAt (barCell (pr 2 c)) () 1 + tallyAt (barCell (pr 1 c)) () 1 + tallyAt (barCell (pr 0 c)) () 1

def L (g : GSem nD τ sig) : Finset Unit := if g.1.2 = .tc then {()} else ∅
/-- Local and sending cells at 0, the barrier at 1, receiving cells at 2, acknowledgements at 3. -/
def lv (g : GSem nD τ sig) (_ : Unit) : ℕ := match g.2 with
  | .reg s => if s = barS then 1 else 3
  | .dma q => if 11 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_ack (c : Dev nD) : lv (ackCell c) () = 3 := rfl
theorem lv_recv (c : Dev nD) (j : Fin 3) : lv (recvCell c j) () = 2 := if_pos (Nat.le_add_right _ _)
theorem lv_send (c : Dev nD) (j : Fin 3) : lv (sendCell c j) () = 0 := by
  have := j.isLt; exact if_neg (show ¬ 11 ≤ 8 + j.val by omega)
theorem lv_in (c : Dev nD) (i : Fin 4) : lv ((c : Thread nD τ), .dma (inS i)) () = 0 := by
  have := i.isLt; exact if_neg (show ¬ 11 ≤ i.val by omega)

theorem tally_pos {g g' : GSem nD τ sig} {n : ℕ} {u : Unit} (h : 0 < tallyAt (Ix := Unit) g () n g' u) : g' = g := by
  rw [tallyAt_apply] at h
  by_cases e : g' = g ∧ u = ()
  · exact e.1
  · rw [if_neg e] at h; exact absurd h (Nat.lt_irrefl 0)

theorem add_pos_cases {O O' : CellTallies nD τ sig Unit} {g : GSem nD τ sig} {u : Unit} (h : 0 < (O + O') g u) : 0 < O g u ∨ 0 < O' g u := by
  have h : 0 < O g u + O' g u := h
  omega

theorem oA_pos {c : Dev nD} {g : GSem nD τ sig} {u : Unit} (h : 0 < oA c g u) : ∃ d, g = ackCell d := by
  rcases add_pos_cases h with h | h
  · rcases add_pos_cases h with h | h
    · exact ⟨_, tally_pos h⟩
    · exact ⟨_, tally_pos h⟩
  · exact ⟨_, tally_pos h⟩

theorem oR_pos {c : Dev nD} {g : GSem nD τ sig} {u : Unit} (h : 0 < oR c g u) : (∃ d, g = ackCell d) ∨ ∃ d j, g = recvCell d j := by
  rcases add_pos_cases h with h | h
  · rcases add_pos_cases h with h | h
    · rcases add_pos_cases h with h | h
      · exact .inl (oA_pos h)
      · exact .inr ⟨_, _, tally_pos h⟩
    · exact .inr ⟨_, _, tally_pos h⟩
  · exact .inr ⟨_, _, tally_pos h⟩

/-- A wait may be entered when everything owed lies at a level above the cell's. -/
theorem mayWait_of (c : Dev nD) (sm : SemLoc sig) (O : CellTallies nD τ sig Unit)
    (h : ∀ g u, 0 < O g u → g.1.2 = .tc ∧ lv ((c : Thread nD τ), sm) () < lv g u) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp])
    (fun g u hg => (h g u hg).2)

theorem mayWait_oA (c : Dev nD) (sm : SemLoc sig) (h : lv ((c : Thread nD τ), sm) () < 3) :
    (levAts L lv : sProp 𝕄) ⊢ MayWait (c : Thread nD τ) sm () (oA c) :=
  mayWait_of c sm (oA c) (fun g u hg => by obtain ⟨d, rfl⟩ := oA_pos hg; exact ⟨rfl, h⟩)

theorem mayWait_oR (c : Dev nD) (sm : SemLoc sig) (h : lv ((c : Thread nD τ), sm) () < 2) :
    (levAts L lv : sProp 𝕄) ⊢ MayWait (c : Thread nD τ) sm () (oR c) :=
  mayWait_of c sm (oR c) (fun g u hg => by
    rcases oR_pos hg with ⟨d, rfl⟩ | ⟨d, j, rfl⟩
    · exact ⟨rfl, Nat.lt_trans h (by decide : 2 < 3)⟩
    · exact ⟨rfl, by rw [show u = () from rfl, lv_recv]; exact h⟩)

end Cert.Cumprod

end
-- ==== Proof.Local.lean ====
/-
The local copies: a chunk of the operand into the working buffer, a chunk of the working buffer into the result, and
how buffers split into chunks and the gathered totals into rows.
-/
module

public import proofs.«01_k».proof.Proof.Protocol

@[expose] public section

set_option maxRecDepth 16384

noncomputable section

namespace Cert.Cumprod

open Cert.KernelIdeal Cert.KernelIdeal.Gen
open Idealize.ShloMosaic Idealize.ShloMosaic.TcCoe
open Idealize.SL Idealize.SL.Sem
open Idealize.SL.BI (sProp Storable bigSep)
open scoped Idealize.SL.BI
open Idealize.SL.BI.BIBase Idealize.SL.BI.Laws Idealize.SL.ProofMode
open Idealize.SL.RA
open Idealize.ShloMosaic.Rounds

variable {F : FTy → Type} [FloatOps F]

local notation "𝕄" => MT nD τ sig Unit (Elt F) ℕ UU ℕ

/-- Device `c`'s operand, and its result before the last reshape, on the places `S`. -/
abbrev xPts (c : Dev nD) (S : Finset S64x64x1024.Idx) (f : Big F) : sProp 𝕄 :=
  (xM : Memref sig .tc .hbm S64x64x1024 .f32).view.loc (c : Thread nD τ) ↦[S]{fullShare} f
abbrev yPts (c : Dev nD) (S : Finset S64x64x1024.Idx) (f : Big F) : sProp 𝕄 :=
  (yM : Memref sig .tc .hbm S64x64x1024 .f32).view.loc (c : Thread nD τ) ↦[S]{fullShare} f

/-! ## A chunk copied between two buffers of the same shape -/

theorem chunk_set_x (o : ℕ) (h : InB o 0 S16x64x1024.size) : (chunkM xM o h).view.set = chunk o :=
  (View.set_slice_whole main_v1 (chunkR o h)).trans (chunkR_set o h)
theorem chunk_set_y (o : ℕ) (h : InB o 0 S16x64x1024.size) : (chunkM yM o h).view.set = chunk o :=
  (View.set_slice_whole main_v2 (chunkR o h)).trans (chunkR_set o h)
theorem chunk_set_b (o : ℕ) (h : InB o 0 S16x64x1024.size) : (chunkM bM o h).view.set = chunk o :=
  (View.set_slice_whole cc0_scratch0 (chunkR o h)).trans (chunkR_set o h)

/-- A chunk overwritten with the same chunk of another buffer holds what that buffer holds. -/
theorem update_chunk (o : ℕ) (h : InB o 0 S16x64x1024.size) (f g : Big F) (i : S64x64x1024.Idx) (hi : i ∈ chunk o) :
    updateSlice f (fun x : S16x64x1024.Idx => g ((chunkR o h).idx x)) ![o, 0, 0] ⟨rfl, h⟩ i = g i := by
  rw [mem_chunk] at hi
  have h1 := (i 1).isLt
  have h2 := (i 2).isLt
  unfold updateSlice
  have hmem : ∀ a, (![o, 0, 0] : Fin 3 → ℕ) a ≤ (i a).val ∧ (i a).val < (![o, 0, 0] : Fin 3 → ℕ) a + S16x64x1024.size a := by
    intro a
    match a with
    | 0 => exact hi
    | 1 => exact ⟨Nat.zero_le _, by show _ < 0 + 64; rw [Nat.zero_add]; exact h1⟩
    | 2 => exact ⟨Nat.zero_le _, by show _ < 0 + 1024; rw [Nat.zero_add]; exact h2⟩
  refine (dif_pos hmem).trans (congrArg g (Shape.idx3_ext ?_ ?_ ?_))
  · show o + 1 * ((i 0).val - o) = _; omega
  · show 0 + 1 * ((i 1).val - 0) = _; omega
  · show 0 + 1 * ((i 2).val - 0) = _; omega

theorem landed_in (o : ℕ) (h : InB o 0 S16x64x1024.size) (f g : Big F) (i : S64x64x1024.Idx) (hi : i ∈ chunk o) :
    (chunkM bM o h).view.write (Elt F) f (ReadAs.same.apply ((chunkM xM o h).view.read (Elt F) g)) Finset.univ i = g i :=
  (congrFun (View.write_whole_slice_unit cc0_scratch0 ![o, 0, 0] S16x64x1024.size h f _) i).trans (update_chunk o h f g i hi)
theorem landed_out (o : ℕ) (h : InB o 0 S16x64x1024.size) (f g : Big F) (i : S64x64x1024.Idx) (hi : i ∈ chunk o) :
    (chunkM yM o h).view.write (Elt F) f (ReadAs.same.apply ((chunkM bM o h).view.read (Elt F) g)) Finset.univ i = g i :=
  (congrFun (View.write_whole_slice_unit main_v2 ![o, 0, 0] S16x64x1024.size h f _) i).trans (update_chunk o h f g i hi)

/-- A copy in under way: it hands over the working buffer's chunk holding the operand, and the operand's chunk. -/
abbrev flyIn (c : Dev nD) (q : DmaSem sig) (o : ℕ) (h : InB o 0 S16x64x1024.size) (g : Big F) : sProp 𝕄 :=
  Transfers.Flight EC (c : Thread nD τ) (.dma q) () (chunkM bM o h).view.dmaCredit iprop(bPts c (chunk o) g ∗ xPts c (chunk o) g)
/-- A copy out under way. -/
abbrev flyOut (c : Dev nD) (q : DmaSem sig) (o : ℕ) (h : InB o 0 S16x64x1024.size) (g : Big F) : sProp 𝕄 :=
  Transfers.Flight EC (c : Thread nD τ) (.dma q) () (chunkM yM o h).view.dmaCredit iprop(yPts c (chunk o) g ∗ bPts c (chunk o) g)

theorem wp_copyIn (c : Dev nD) (q : DmaSem sig) (o : ℕ) (h : InB o 0 S16x64x1024.size) (f g : Big F)
    {α : Type} (k : PUnit → KProg F α) (Q : α → sProp 𝕄) :
    iprop(xPts c (chunk o) g ∗ bPts c (chunk o) f ∗ semVal ((c : Thread nD τ), .dma q) 0)
      ⊢ iprop((flyIn c q o h g -∗ wp frame (wpE (defs₀ (F := F)) 𝒱₀ c none) Set.univ (k ⟨⟩) Q)
        -∗ wp frame (wpE (defs₀ (F := F)) 𝒱₀ c none) Set.univ ((copyIn q o h).bind k) Q) := by
  simp only [copyIn, Prog.lift, Prog.bind_op, Prog.bind_ret, bind, Prog.pure_eq_ret]
  iintro ⟨Hx, Hb, Hs⟩ Hk
  iapply (Transfers.wp_dmaLocal EC 𝒱₀ (c : Thread nD τ) none (src := chunkM xM o h) (dst := chunkM bM o h) (Sd := chunk o) (q := fullShare)
    (fs := g) (fd := f) () (chunkM bM o h).view.dmaCredit rfl (View.dmaCredit_pos _ h_S16x64x1024) (chunk_set_b o h).subset) $$ [Hx Hb Hs]
  · isplitl [Hx]
    · iapply (Entails.of_eq (congrArg (fun S => xPts c S g) (chunk_set_x o h)).symm) $$ Hx
    isplitl [Hb]; · iexact Hb
    iexact Hs
  iintro HF
  iapply Hk
  iapply (Transfers.Flight_mono ?_) $$ HF
  iintro ⟨Hb, Hx⟩
  isplitl [Hb]
  · iapply (Entails.of_eq (pointsTo_congr (landed_in o h f g))) $$ Hb
  · iapply (Entails.of_eq (congrArg (fun S => xPts c S g) (chunk_set_x o h))) $$ Hx

theorem wp_copyOut (c : Dev nD) (q : DmaSem sig) (o : ℕ) (h : InB o 0 S16x64x1024.size) (f g : Big F)
    {α : Type} (k : PUnit → KProg F α) (Q : α → sProp 𝕄) :
    iprop(bPts c (chunk o) g ∗ yPts c (chunk o) f ∗ semVal ((c : Thread nD τ), .dma q) 0)
      ⊢ iprop((flyOut c q o h g -∗ wp frame (wpE (defs₀ (F := F)) 𝒱₀ c none) Set.univ (k ⟨⟩) Q)
        -∗ wp frame (wpE (defs₀ (F := F)) 𝒱₀ c none) Set.univ ((copyOut q o h).bind k) Q) := by
  simp only [copyOut, Prog.lift, Prog.bind_op, Prog.bind_ret, bind, Prog.pure_eq_ret]
  iintro ⟨Hb, Hy, Hs⟩ Hk
  iapply (Transfers.wp_dmaLocal EC 𝒱₀ (c : Thread nD τ) none (src := chunkM bM o h) (dst := chunkM yM o h) (Sd := chunk o) (q := fullShare)
    (fs := g) (fd := f) () (chunkM yM o h).view.dmaCredit rfl (View.dmaCredit_pos _ h_S16x64x1024) (chunk_set_y o h).subset) $$ [Hb Hy Hs]
  · isplitl [Hb]
    · iapply (Entails.of_eq (congrArg (fun S => bPts c S g) (chunk_set_b o h)).symm) $$ Hb
    isplitl [Hy]; · iexact Hy
    iexact Hs
  iintro HF
  iapply Hk
  iapply (Transfers.Flight_mono ?_) $$ HF
  iintro ⟨Hy, Hb⟩
  isplitl [Hy]
  · iapply (Entails.of_eq (pointsTo_congr (landed_out o h f g))) $$ Hy
  · iapply (Entails.of_eq (congrArg (fun S => bPts c S g) (chunk_set_b o h))) $$ Hb

theorem wp_waitIn (c : Dev nD) (q : DmaSem sig) (o : ℕ) (h : InB o 0 S16x64x1024.size) (g : Big F) (O : CellTallies nD τ sig Unit) (W : Waits sig Unit)
    {α : Type} (k : PUnit → KProg F α) (Q : α → sProp 𝕄) :
    iprop(flyIn c q o h g ∗ owes (c : Thread nD τ) O W ∗ MayWait (c : Thread nD τ) (.dma q) () O)
      ⊢ iprop((((bPts c (chunk o) g ∗ xPts c (chunk o) g) ∗ semVal ((c : Thread nD τ), .dma q) 0
            ∗ owes (c : Thread nD τ) O (insert (SemLoc.dma q, ()) W)) -∗ wp frame (wpE (defs₀ (F := F)) 𝒱₀ c none) Set.univ (k ⟨⟩) Q)
        -∗ wp frame (wpE (defs₀ (F := F)) 𝒱₀ c none) Set.univ ((waitIn q o h).bind k) Q) := by
  simp only [waitIn, Prog.lift, Prog.bind_op, Prog.bind_ret, bind, Prog.pure_eq_ret]
  exact Transfers.wp_waitLocalO EC 𝒱₀ (c : Thread nD τ) none () rfl

theorem wp_waitOut (c : Dev nD) (q : DmaSem sig) (o : ℕ) (h : InB o 0 S16x64x1024.size) (g : Big F) (O : CellTallies nD τ sig Unit) (W : Waits sig Unit)
    {α : Type} (k : PUnit → KProg F α) (Q : α → sProp 𝕄) :
    iprop(flyOut c q o h g ∗ owes (c : Thread nD τ) O W ∗ MayWait (c : Thread nD τ) (.dma q) () O)
      ⊢ iprop((((yPts c (chunk o) g ∗ bPts c (chunk o) g) ∗ semVal ((c : Thread nD τ), .dma q) 0
            ∗ owes (c : Thread nD τ) O (insert (SemLoc.dma q, ()) W)) -∗ wp frame (wpE (defs₀ (F := F)) 𝒱₀ c none) Set.univ (k ⟨⟩) Q)
        -∗ wp frame (wpE (defs₀ (F := F)) 𝒱₀ c none) Set.univ ((waitOut q o h).bind k) Q) := by
  simp only [waitOut, Prog.lift, Prog.bind_op, Prog.bind_ret, bind, Prog.pure_eq_ret]
  exact Transfers.wp_waitLocalO EC 𝒱₀ (c : Thread nD τ) none () rfl

/-! ## Four parts of a buffer -/

/-- Four assertions side by side. -/
abbrev four (Φ : Fin 4 → sProp 𝕄) : sProp 𝕄 := iprop(Φ 0 ∗ Φ 1 ∗ Φ 2 ∗ Φ 3)

theorem bigSep_four (Φ : Fin 4 → sProp 𝕄) : bigSep Finset.univ Φ = four Φ := by
  rw [BI.bigSep_eq_bigSepL_of_eq [(0 : Fin 4), 1, 2, 3] (by decide) (by decide)]; rfl

/-- A buffer held whole is its four chunks. -/
theorem chunks_cover : (Finset.univ : Finset S64x64x1024.Idx) = Finset.univ.biUnion fun k : Fin 4 => chunk (16 * k.val) := by
  ext i
  have hi : (i 0).val < 64 := (i 0).isLt
  simp only [Finset.mem_univ, Finset.mem_biUnion, true_and, true_iff, mem_chunk]
  exact ⟨⟨(i 0).val / 16, by omega⟩, by show 16 * ((i 0).val / 16) ≤ _; omega, by show _ < 16 * ((i 0).val / 16) + 16; omega⟩
theorem chunks_disjoint : ∀ k ∈ (Finset.univ : Finset (Fin 4)), ∀ k' ∈ (Finset.univ : Finset (Fin 4)), k ≠ k' →
    Disjoint (chunk (16 * k.val)) (chunk (16 * k'.val)) := by
  intro k _ k' _ hne
  rw [Finset.disjoint_left]
  intro i h h'
  rw [mem_chunk] at h h'
  exact hne (Fin.ext (by omega))

/-- A buffer held whole is its four chunks. -/
theorem bPts_four (c : Dev nD) (f : Big F) : bPts c Finset.univ f = four fun k => bPts c (chunk (16 * k.val)) f := by
  rw [← bigSep_four, ← pointsTo_biUnion _ _ chunks_disjoint, ← chunks_cover]
theorem xPts_four (c : Dev nD) (f : Big F) : xPts c Finset.univ f = four fun k => xPts c (chunk (16 * k.val)) f := by
  rw [← bigSep_four, ← pointsTo_biUnion _ _ chunks_disjoint, ← chunks_cover]
theorem yPts_four (c : Dev nD) (f : Big F) : yPts c Finset.univ f = four fun k => yPts c (chunk (16 * k.val)) f := by
  rw [← bigSep_four, ← pointsTo_biUnion _ _ chunks_disjoint, ← chunks_cover]

/-! ## Rows of the gathered totals -/

/-- A place of row `k` lies in row `k`, in the column it has in row 0. -/
theorem rowEmb (k : Fin 4) (x : S1024.Idx) : ((row k).view.emb x) 0 = k ∧ ((row k).view.emb x) 1 = ((row 0).view.emb x) 1 := by
  refine ⟨Fin.ext ?_, Fin.ext rfl⟩
  have key : ∀ y : S1x1024.Idx, k.val + 1 * (y 0).val = k.val := fun y => by
    have h : (y 0).val < 1 := (y 0).isLt
    omega
  exact key _

theorem mem_rset (k : Fin 4) (i : S4x1024.Idx) : i ∈ rset k ↔ (i 0) = k := by
  have e : rset k = (rowR k.val (rowIn k)).set :=
    (View.set_reshape _ _).trans (View.set_slice_whole cc0_scratch1 (rowR k.val (rowIn k)))
  rw [e, Rect.mem_set_unit]
  refine ⟨fun H => Fin.ext ?_, fun H a => ?_⟩
  · have h0 : k.val ≤ (i 0).val ∧ (i 0).val < k.val + 1 := H 0
    omega
  · match a with
    | 0 => rw [← H]; exact ⟨Nat.le_refl _, Nat.lt_succ_self _⟩
    | 1 => exact ⟨Nat.zero_le _, by show _ < 0 + 1024; rw [Nat.zero_add]; exact (i 1).isLt⟩

theorem rows_cover : (Finset.univ : Finset S4x1024.Idx) = Finset.univ.biUnion rset := by
  ext i
  simp only [Finset.mem_univ, Finset.mem_biUnion, true_and, true_iff, mem_rset]
  exact ⟨i 0, rfl⟩
theorem rows_disjoint : ∀ k ∈ (Finset.univ : Finset (Fin 4)), ∀ k' ∈ (Finset.univ : Finset (Fin 4)), k ≠ k' → Disjoint (rset k) (rset k') := by
  intro k _ k' _ hne
  rw [Finset.disjoint_left]
  intro i h h'
  rw [mem_rset] at h h'
  exact hne (h.symm.trans h')

theorem gPts_four (c : Dev nD) (f : S4x1024.Idx → Elt F .f32) : gPts c Finset.univ fullShare f = four fun k => gPts c (rset k) fullShare f := by
  rw [← bigSep_four, ← pointsTo_biUnion _ _ rows_disjoint, ← rows_cover]

variable (X : Dev nD → Big F)

/-- What device `c`'s copy leaves in its peer's row is what that peer is to gather there. -/
theorem landed_row (c : Dev nD) (j : Fin 3) (f : S4x1024.Idx → Elt F .f32) (i : S4x1024.Idx) (hi : i ∈ rset j.succ) :
    (row j.succ).view.write (Elt F) f (ReadAs.same.apply ((row 0).view.read (Elt F) (gath X c))) Finset.univ i = gath X (pr j c) i := by
  obtain ⟨x, -, rfl⟩ := Finset.mem_map.mp hi
  refine (View.write_emb_of_mem _ _ (Finset.mem_univ x)).trans ?_
  show gath X c ((row 0).view.emb x) = gath X (pr j c) ((row j.succ).view.emb x)
  unfold gath
  rw [(rowEmb 0 x).1, (rowEmb j.succ x).1, (rowEmb j.succ x).2, src_pr, src_zero]

/-- What the store of the total leaves in row 0. -/
theorem put_row (c : Dev nD) (f : S4x1024.Idx → Elt F .f32) (i : S4x1024.Idx) (hi : i ∈ rset 0) :
    ((gM : Memref sig .tc .vmem S4x1024 .f32).access (rowR 0 row0)).write (Elt F) f (tot X c) Finset.univ i = gath X c i := by
  rw [mem_rset] at hi
  have h0 : (i 0).val = 0 := congrArg Fin.val hi
  refine (congrFun (View.write_whole_slice_unit cc0_scratch1 ![0, 0] S1x1024.size row0 f _) i).trans ?_
  unfold updateSlice gath
  have hmem : ∀ a, (![0, 0] : Fin 2 → ℕ) a ≤ (i a).val ∧ (i a).val < (![0, 0] : Fin 2 → ℕ) a + S1x1024.size a := by
    intro a
    match a with
    | 0 => exact ⟨Nat.zero_le _, by rw [h0]; decide⟩
    | 1 => exact ⟨Nat.zero_le _, by show _ < 0 + 1024; rw [Nat.zero_add]; exact (i 1).isLt⟩
  refine (dif_pos hmem).trans ?_
  rw [hi, src_zero]
  refine congrArg (tot X c) (funext fun a => Fin.ext ?_)
  match a with
  | 0 => show (i 0).val - 0 = 0; omega
  | 1 => rfl

/-- Row 0's places, as its load and its store name them. -/
theorem row0_load : (gM : Memref sig .tc .vmem S4x1024 .f32).view.setOn (rowR 0 row0).toLoadRect.set ⊆ rset 0 := by
  intro i hi
  obtain ⟨j, hj, rfl⟩ := Finset.mem_map.mp hi
  exact ((View.set_reshape _ _).trans (View.set_slice_whole cc0_scratch1 (rowR 0 row0))).symm.subset hj
theorem row0_store : ((gM : Memref sig .tc .vmem S4x1024 .f32).access (rowR 0 row0)).setOn Finset.univ ⊆ rset 0 := by
  rw [View.setOn_univ]
  exact (View.set_reshape _ _).symm.subset

end Cert.Cumprod

end
-- ==== Proof.Steps.lean ====
/-
The exchange step by step: the cells' invariants, and the run of each signal, wait and remote copy.
-/
module

public import proofs.«01_k».proof.Proof.Local

@[expose] public section

set_option maxRecDepth 16384

noncomputable section

namespace Cert.Cumprod

open Cert.KernelIdeal Cert.KernelIdeal.Gen
open Idealize.ShloMosaic Idealize.ShloMosaic.TcCoe
open Idealize.SL Idealize.SL.Sem
open Idealize.SL.BI (sProp Storable bigSep)
open scoped Idealize.SL.BI
open Idealize.SL.BI.BIBase Idealize.SL.BI.Laws Idealize.SL.ProofMode
open Idealize.SL.RA
open Idealize.ShloMosaic.Rounds

variable {F : FTy → Type} [FloatOps F]

local notation "𝕄" => MT nD τ sig Unit (Elt F) ℕ UU ℕ

/-! ## The cells -/

/-- The exchange's scoped semaphores: the acknowledgement's, the three sending and the three receiving ones. -/
def xsem : Fin 7 → SemLoc sig
  | 0 => .reg ackS
  | 1 => .dma (sendS 0)
  | 2 => .dma (sendS 1)
  | 3 => .dma (sendS 2)
  | 4 => .dma (recvS 0)
  | 5 => .dma (recvS 1)
  | 6 => .dma (recvS 2)

theorem xsem_inj : Function.Injective xsem := by decide
theorem xsem_ne_bar : ∀ k, xsem k ≠ .reg barS := by decide

theorem xsem_send (j : Fin 3) : ∃ k, xsem k = .dma (sendS j) := by revert j; decide
theorem xsem_recv (j : Fin 3) : ∃ k, xsem k = .dma (recvS j) := by revert j; decide

def barEmb : Dev nD ↪ GSem nD τ sig := ⟨fun c => barCell c, fun _ _ h => congrArg (fun g : GSem nD τ sig => g.1.1) h⟩
def scEmb : Dev nD × Fin 7 ↪ GSem nD τ sig :=
  ⟨fun ck => ((ck.1 : Thread nD τ), xsem ck.2), fun _ _ h =>
    Prod.ext (congrArg (fun g : GSem nD τ sig => g.1.1) h) (xsem_inj (congrArg Prod.snd h))⟩

abbrev barCells : Finset (GSem nD τ sig) := Finset.univ.map barEmb
abbrev scCells : Finset (GSem nD τ sig) := Finset.univ.map scEmb

theorem sc_mem (c : Dev nD) (k : Fin 7) (sm : SemLoc sig) (h : xsem k = sm) :
    (((c : Thread nD τ), sm) : GSem nD τ sig) ∈ (barCells ∪ scCells : Finset (GSem nD τ sig)) := by
  subst h; exact Finset.mem_union_right _ (Finset.mem_map_of_mem scEmb (Finset.mem_univ (c, k)))
theorem bar_mem (c : Dev nD) : barCell c ∈ (barCells ∪ scCells : Finset (GSem nD τ sig)) :=
  Finset.mem_union_left _ (Finset.mem_map_of_mem barEmb (Finset.mem_univ c))
theorem ack_mem (c : Dev nD) : ackCell c ∈ (barCells ∪ scCells : Finset (GSem nD τ sig)) := sc_mem c 0 _ rfl
theorem send_mem (c : Dev nD) (j : Fin 3) : sendCell c j ∈ (barCells ∪ scCells : Finset (GSem nD τ sig)) := by
  obtain ⟨k, h⟩ := xsem_send j; exact sc_mem c k _ h
theorem recv_mem (c : Dev nD) (j : Fin 3) : recvCell c j ∈ (barCells ∪ scCells : Finset (GSem nD τ sig)) := by
  obtain ⟨k, h⟩ := xsem_recv j; exact sc_mem c k _ h

variable (X : Dev nD → Big F) (κ : GSem nD τ sig → ℕ)

/-- Every cell's invariant, under one map of names. -/
def invs : sProp 𝕄 := bigSep (barCells ∪ scCells) fun g => cellInv ER (sched X) (κ g) g

instance invs_persistent : BI.Persistent (invs X κ) := by unfold invs; infer_instance

theorem inv_at {g : GSem nD τ sig} (hg : g ∈ (barCells ∪ scCells : Finset (GSem nD τ sig))) :
    invs X κ ⊢ cellInv ER (sched X) (κ g) g := BI.bigSep_elim hg

/-- A cell whose one round is over gives its counter back at zero. -/
theorem close {g : GSem nD τ sig} (hg : g ∈ (barCells ∪ scCells : Finset (GSem nD τ sig))) :
    iprop(invs X κ ∗ atPos ER g (0 + 1) ∅ 0) ⊢ (|={Set.univ}=> semVal g 0 : sProp 𝕄) := by
  iintro ⟨#HI, Hat⟩
  ihave #Hc := (inv_at X κ hg) $$ HI
  iapply (Rounds.cell_close ER (sched X) (Set.mem_univ (κ g)) id (duties_later X g))
  isplitr; · iexact Hc
  iexact Hat

/-! ## Steps -/

/-- A signal to device `pr j c`'s barrier: it hands over this device's row for that device's total. -/
theorem wp_barSignal (c : Dev nD) (j : Fin 3) (d : Dev nD) (hd : d = pr j c) (O O' : CellTallies nD τ sig Unit)
    (hO : O' = O + tallyAt (barCell (pr j c)) () 1) (W : Waits sig Unit) {α : Type} (k : PUnit → KProg F α) (Q : α → sProp 𝕄) :
    iprop(invs X κ ∗ reached ER (barCell (pr j c)) 0 ∗ dutyTok ER (barCell (pr j c)) 0 j.rev ∗ (∃ f, gPts c (rset j.rev.succ) fullShare f)
        ∗ reached ER (recvCell c j.rev) 0 ∗ reached ER (ackCell c) 0 ∗ owes (c : Thread nD τ) O' W)
      ⊢ iprop((owes (c : Thread nD τ) O W -∗ wp frame (wpE (defs₀ (F := F)) 𝒱₀ c none) Set.univ (k ⟨⟩) Q)
        -∗ wp frame (wpE (defs₀ (F := F)) 𝒱₀ c none) Set.univ ((semSignalWord d barS 1#32 : KProg F PUnit).bind k) Q) := by
  subst hd
  simp only [semSignalWord, Prog.lift, Prog.bind_op, Prog.bind_ret, bind, Prog.pure_eq_ret]
  iintro ⟨#HI, #Hr, Ht, Hg, #Hv, #Ha, HO⟩
  ihave #Hc := (inv_at X κ (bar_mem (pr j c))) $$ HI
  iapply (Rounds.wp_signal 𝒱₀ ER (sched X) (c : Thread nD τ) none (dst := (pr j c : Thread nD τ)) (sem := barS) (r := 0) (d := j.rev)
    (κ := κ (barCell (pr j c))) (by rw [duties_bar]; exact Finset.mem_univ _) (rfl) () O hO) $$ [HO Ht Hg]
  isplitr; · iexact Hc
  isplitl [HO]; · iexact HO
  isplitl [Ht]; · iexact Ht
  isplitl [Hg]
  · rw [payload_bar]; unfold barPay; rw [pr_rev]
    isplitl [Hg]; · iexact Hg
    isplitr; · iexact Hv
    iexact Ha
  iexact Hr

/-- A signal to device `pr j c`'s acknowledgements. -/
theorem wp_ackSignal (c : Dev nD) (j : Fin 3) (d : Dev nD) (hd : d = pr j c) (O O' : CellTallies nD τ sig Unit)
    (hO : O' = O + tallyAt (ackCell (pr j c)) () 1) (W : Waits sig Unit) {α : Type} (k : PUnit → KProg F α) (Q : α → sProp 𝕄) :
    iprop(invs X κ ∗ reached ER (ackCell (pr j c)) 0 ∗ dutyTok ER (ackCell (pr j c)) 0 j.rev ∗ owes (c : Thread nD τ) O' W)
      ⊢ iprop((owes (c : Thread nD τ) O W -∗ wp frame (wpE (defs₀ (F := F)) 𝒱₀ c none) Set.univ (k ⟨⟩) Q)
        -∗ wp frame (wpE (defs₀ (F := F)) 𝒱₀ c none) Set.univ ((semSignalWord d ackS 1#32 : KProg F PUnit).bind k) Q) := by
  subst hd
  simp only [semSignalWord, Prog.lift, Prog.bind_op, Prog.bind_ret, bind, Prog.pure_eq_ret]
  iintro ⟨#HI, #Hr, Ht, HO⟩
  ihave #Hc := (inv_at X κ (ack_mem (pr j c))) $$ HI
  iapply (Rounds.wp_signal 𝒱₀ ER (sched X) (c : Thread nD τ) none (dst := (pr j c : Thread nD τ)) (sem := ackS) (r := 0) (d := j.rev)
    (κ := κ (ackCell (pr j c))) (by rw [duties_ack]; exact Finset.mem_univ _) (rfl) () O hO) $$ [HO Ht]
  isplitr; · iexact Hc
  isplitl [HO]; · iexact HO
  isplitl [Ht]; · iexact Ht
  isplitr
  · rw [payload_ack]; iempintro
  iexact Hr

/-- The wait for the three barrier units: every peer's row for this device's total comes with them. -/
theorem wp_barWait (c : Dev nD) (O : CellTallies nD τ sig Unit) (W : Waits sig Unit) {α : Type} (k : PUnit → KProg F α) (Q : α → sProp 𝕄) :
    iprop(invs X κ ∗ cred (tallyAt (barCell c) () 3) ∗ owes (c : Thread nD τ) O W ∗ MayWait (c : Thread nD τ) (.reg barS) () O ∗ atPos ER (barCell c) 0 ∅ 0)
      ⊢ iprop(((owes (c : Thread nD τ) O (insert (SemLoc.reg barS, ()) W) ∗ atPos ER (barCell c) (0 + 1) ∅ 0 ∗ three (barPay c))
          -∗ wp frame (wpE (defs₀ (F := F)) 𝒱₀ c none) Set.univ (k ⟨⟩) Q)
        -∗ wp frame (wpE (defs₀ (F := F)) 𝒱₀ c none) Set.univ ((semWaitWord barS 3#32 : KProg F PUnit).bind k) Q) := by
  simp only [semWaitWord, Prog.lift, Prog.bind_op, Prog.bind_ret, bind, Prog.pure_eq_ret]
  iintro ⟨#HI, Hcr, HO, HM, Hat⟩ Hk
  ihave #Hc := (inv_at X κ (bar_mem c)) $$ HI
  iapply (Rounds.wp_wait_rest_token 𝒱₀ ER (sched X) (c : Thread nD τ) none (κ := κ (barCell c))
    (wpE_semWait_eq 𝒱₀ (c : Thread nD τ) none Set.univ) (Set.mem_univ _) () (O := O) (W := W) (R := 0) (m := 0) (T := ∅)
    ((Nat.zero_add 3).trans (expect_bar X c).symm)) $$ [Hcr HO HM Hat]
  · isplitr; · iexact Hc
    isplitl [Hcr]; · iexact Hcr
    isplitl [HO]; · iexact HO
    isplitl [HM]; · iexact HM
    iexact Hat
  iintro ⟨HO, Hat, -, Hp⟩
  iapply Hk
  isplitl [HO]; · iexact HO
  isplitl [Hat]; · iexact Hat
  iapply (Entails.of_eq (rest_bar X c)) $$ Hp

/-- The wait for the three acknowledgements. -/
theorem wp_ackWait (c : Dev nD) (O : CellTallies nD τ sig Unit) (W : Waits sig Unit) {α : Type} (k : PUnit → KProg F α) (Q : α → sProp 𝕄) :
    iprop(invs X κ ∗ cred (tallyAt (ackCell c) () 3) ∗ owes (c : Thread nD τ) O W ∗ MayWait (c : Thread nD τ) (.reg ackS) () O ∗ atPos ER (ackCell c) 0 ∅ 0)
      ⊢ iprop(((owes (c : Thread nD τ) O (insert (SemLoc.reg ackS, ()) W) ∗ atPos ER (ackCell c) (0 + 1) ∅ 0)
          -∗ wp frame (wpE (defs₀ (F := F)) 𝒱₀ c none) Set.univ (k ⟨⟩) Q)
        -∗ wp frame (wpE (defs₀ (F := F)) 𝒱₀ c none) Set.univ ((semWaitWord ackS 3#32 : KProg F PUnit).bind k) Q) := by
  simp only [semWaitWord, Prog.lift, Prog.bind_op, Prog.bind_ret, bind, Prog.pure_eq_ret]
  iintro ⟨#HI, Hcr, HO, HM, Hat⟩ Hk
  ihave #Hc := (inv_at X κ (ack_mem c)) $$ HI
  iapply (Rounds.wp_wait_rest_token 𝒱₀ ER (sched X) (c : Thread nD τ) none (κ := κ (ackCell c))
    (wpE_semWait_eq 𝒱₀ (c : Thread nD τ) none Set.univ) (Set.mem_univ _) () (O := O) (W := W) (R := 0) (m := 0) (T := ∅)
    ((Nat.zero_add 3).trans (expect_ack X c).symm)) $$ [Hcr HO HM Hat]
  · isplitr; · iexact Hc
    isplitl [Hcr]; · iexact Hcr
    isplitl [HO]; · iexact HO
    isplitl [HM]; · iexact HM
    iexact Hat
  iintro ⟨HO, Hat, -, -⟩
  iapply Hk
  isplitl [HO]; · iexact HO
  iexact Hat

/-- The remote copy of the total to device `pr j c`: it takes a share of row 0 and the peer's row. -/
theorem wp_sendRow (c : Dev nD) (j : Fin 3) (d : Dev nD) (hd : d = pr j c) (qs qr : DmaSem sig) (hqs : qs = sendS j) (hqr : qr = recvS j)
    (n : ℕ) (hn : n = j.succ.val) (h : ∀ a, (![n, 0] : Fin 2 → ℕ) a + S1x1024.size a ≤ S4x1024.size a)
    (O O' : CellTallies nD τ sig Unit) (hO : O' = O + tallyAt (recvCell (pr j c)  j) () N) (W : Waits sig Unit)
    {α : Type} (k : PUnit → KProg F α) (Q : α → sProp 𝕄) :
    iprop(invs X κ ∗ gPts c (rset 0) (Ring.shares3 fullShare j) (gath X c) ∗ (∃ f, gPts (pr j c) (rset j.succ) fullShare f)
        ∗ owes (c : Thread nD τ) O' W ∗ dutyTok ER (sendCell c j) 0 0 ∗ reached ER (sendCell c j) 0
        ∗ dutyTok ER (recvCell (pr j c) j) 0 0 ∗ reached ER (recvCell (pr j c) j) 0)
      ⊢ iprop(((cred (tallyAt (sendCell c j) () N) ∗ owes (c : Thread nD τ) O W) -∗ wp frame (wpE (defs₀ (F := F)) 𝒱₀ c none) Set.univ (k ⟨⟩) Q)
        -∗ wp frame (wpE (defs₀ (F := F)) 𝒱₀ c none) Set.univ ((sendP d qs qr n h).bind k) Q) := by
  subst hd hqs hqr hn
  simp only [sendP, Prog.lift, Prog.bind_op, Prog.bind_ret, bind, Prog.pure_eq_ret]
  iintro ⟨#HI, Hs, ⟨%f, Hd⟩, HO, Hts, #Hrs, Htr, #Hrr⟩
  ihave #Hcs := (inv_at X κ (send_mem c j)) $$ HI
  ihave #Hcr := (inv_at X κ (recv_mem (pr j c) j)) $$ HI
  iapply (Rounds.wp_send_pointsTo 𝒱₀ ER (sched X) (c : Thread nD τ) none (c' := (pr j c : Thread nD τ)) (src := row 0) (dst := row j.succ)
      (sS := .dma (sendS j)) (sem := .dma (recvS j)) (q := Ring.shares3 fullShare j) (fs := gath X c)
      (κ₁ := κ (sendCell c j)) (κ₂ := κ (recvCell (pr j c) j)) (r₁ := 0) (r₂ := 0) (d₁ := 0) (d₂ := 0) (fd := f)
      (by rw [duties_send]; exact Finset.mem_singleton_self _) (by rw [duties_recv]; exact Finset.mem_singleton_self _)
      () () N rfl rfl rfl O hO (W := W)
      (by rw [payload_send]; exact BI.Entails.refl _)
      (by rw [payload_recv]; exact Entails.of_eq (pointsTo_congr (landed_row X c j f)))) $$ [Hs Hd HO Hts Htr]
  isplitr; · iexact Hcs
  isplitr; · iexact Hcr
  isplitl [Hs]; · iexact Hs
  isplitl [Hd]; · iexact Hd
  isplitl [HO]; · iexact HO
  isplitl [Hts]; · iexact Hts
  isplitr; · iexact Hrs
  isplitl [Htr]; · iexact Htr
  iexact Hrr

/-- The wait for the copy sent as `j`: the share of row 0 it read comes back. -/
theorem wp_sentRow (c : Dev nD) (j : Fin 3) (qs : DmaSem sig) (hqs : qs = sendS j) (n : ℕ)
    (h : ∀ a, (![n, 0] : Fin 2 → ℕ) a + S1x1024.size a ≤ S4x1024.size a) (O : CellTallies nD τ sig Unit) (W : Waits sig Unit)
    {α : Type} (k : PUnit → KProg F α) (Q : α → sProp 𝕄) :
    iprop(invs X κ ∗ cred (tallyAt (sendCell c j) () N) ∗ owes (c : Thread nD τ) O W ∗ MayWait (c : Thread nD τ) (.dma (sendS j)) () O ∗ atPos ER (sendCell c j) 0 ∅ 0)
      ⊢ iprop(((owes (c : Thread nD τ) O (insert (SemLoc.dma (sendS j), ()) W) ∗ atPos ER (sendCell c j) (0 + 1) ∅ 0 ∗ sendPay X c j)
          -∗ wp frame (wpE (defs₀ (F := F)) 𝒱₀ c none) Set.univ (k ⟨⟩) Q)
        -∗ wp frame (wpE (defs₀ (F := F)) 𝒱₀ c none) Set.univ ((sentP qs n h).bind k) Q) := by
  subst hqs
  simp only [sentP, Prog.lift, Prog.bind_op, Prog.bind_ret, bind, Prog.pure_eq_ret]
  iintro ⟨#HI, Hcr, HO, HM, Hat⟩ Hk
  ihave #Hc := (inv_at X κ (send_mem c j)) $$ HI
  iapply (Rounds.wp_wait_rest_token 𝒱₀ ER (sched X) (c : Thread nD τ) none (κ := κ (sendCell c j))
    (wpE_waitDma2_eq (src := rowM n h) (dst := rowM 0 row0) 𝒱₀ (c : Thread nD τ) none Set.univ) (Set.mem_univ _) () (O := O) (W := W) (R := 0) (m := 0) (T := ∅)
    ((Nat.zero_add N).trans (expect_send X c j).symm)) $$ [Hcr HO HM Hat]
  · isplitr; · iexact Hc
    isplitl [Hcr]; · iexact Hcr
    isplitl [HO]; · iexact HO
    isplitl [HM]; · iexact HM
    iexact Hat
  iintro ⟨HO, Hat, -, Hp⟩
  iapply Hk
  isplitl [HO]; · iexact HO
  isplitl [Hat]; · iexact Hat
  iapply (Entails.of_eq (rest_send X c j)) $$ Hp

/-- The wait for the copy that arrives in row `j + 1`: the row comes back with its sender's total. -/
theorem wp_gotRow (c : Dev nD) (j : Fin 3) (qr : DmaSem sig) (hqr : qr = recvS j) (n : ℕ)
    (h : ∀ a, (![n, 0] : Fin 2 → ℕ) a + S1x1024.size a ≤ S4x1024.size a) (O : CellTallies nD τ sig Unit) (W : Waits sig Unit)
    {α : Type} (k : PUnit → KProg F α) (Q : α → sProp 𝕄) :
    iprop(invs X κ ∗ cred (tallyAt (recvCell c j) () N) ∗ owes (c : Thread nD τ) O W ∗ MayWait (c : Thread nD τ) (.dma (recvS j)) () O ∗ atPos ER (recvCell c j) 0 ∅ 0)
      ⊢ iprop(((owes (c : Thread nD τ) O (insert (SemLoc.dma (recvS j), ()) W) ∗ atPos ER (recvCell c j) (0 + 1) ∅ 0 ∗ recvPay X c j)
          -∗ wp frame (wpE (defs₀ (F := F)) 𝒱₀ c none) Set.univ (k ⟨⟩) Q)
        -∗ wp frame (wpE (defs₀ (F := F)) 𝒱₀ c none) Set.univ ((gotP qr n h).bind k) Q) := by
  subst hqr
  simp only [gotP, Prog.lift, Prog.bind_op, Prog.bind_ret, bind, Prog.pure_eq_ret]
  iintro ⟨#HI, Hcr, HO, HM, Hat⟩ Hk
  ihave #Hc := (inv_at X κ (recv_mem c j)) $$ HI
  iapply (Rounds.wp_wait_rest_token 𝒱₀ ER (sched X) (c : Thread nD τ) none (κ := κ (recvCell c j))
    (wpE_waitDma2_eq (src := rowM 0 row0) (dst := rowM n h) 𝒱₀ (c : Thread nD τ) none Set.univ) (Set.mem_univ _) () (O := O) (W := W) (R := 0) (m := 0) (T := ∅)
    ((Nat.zero_add N).trans (expect_recv X c j).symm)) $$ [Hcr HO HM Hat]
  · isplitr; · iexact Hc
    isplitl [Hcr]; · iexact Hcr
    isplitl [HO]; · iexact HO
    isplitl [HM]; · iexact HM
    iexact Hat
  iintro ⟨HO, Hat, -, Hp⟩
  iapply Hk
  isplitl [HO]; · iexact HO
  isplitl [Hat]; · iexact Hat
  iapply (Entails.of_eq (rest_recv X c j)) $$ Hp

end Cert.Cumprod

end
-- ==== Proof.Run.lean ====
/-
The run of the whole body on one device, phase by phase.
-/
module

public import proofs.«01_k».proof.Proof.Steps

@[expose] public section

set_option maxRecDepth 16384

noncomputable section

namespace Cert.Cumprod

open Cert.KernelIdeal Cert.KernelIdeal.Gen
open Idealize.ShloMosaic Idealize.ShloMosaic.TcCoe
open Idealize.SL Idealize.SL.Sem
open Idealize.SL.BI (sProp Storable bigSep)
open scoped Idealize.SL.BI
open Idealize.SL.BI.BIBase Idealize.SL.BI.Laws Idealize.SL.ProofMode
open Idealize.SL.RA
open Idealize.ShloMosaic.Rounds

variable {F : FTy → Type} [FloatOps F]

local notation "𝕄" => MT nD τ sig Unit (Elt F) ℕ UU ℕ

/-! ## The devices the body names -/

theorem dev1_eq (c : Dev nD) : (⟨k0_dev1 c, k0_dev1_lt c⟩ : Dev nD) = pr 0 c := by revert c; decide
theorem dev2_eq (c : Dev nD) : (⟨k0_dev2 c, k0_dev2_lt c⟩ : Dev nD) = pr 1 c := by revert c; decide
theorem dev3_eq (c : Dev nD) : (⟨k0_dev3 c, k0_dev3_lt c⟩ : Dev nD) = pr 2 c := by revert c; decide
theorem dev4_eq (c : Dev nD) : (⟨k0_dev4 c, k0_dev4_lt c⟩ : Dev nD) = pr 0 c := by revert c; decide
theorem dev5_eq (c : Dev nD) : (⟨k0_dev5 c, k0_dev5_lt c⟩ : Dev nD) = pr 1 c := by revert c; decide
theorem dev6_eq (c : Dev nD) : (⟨k0_dev6 c, k0_dev6_lt c⟩ : Dev nD) = pr 2 c := by revert c; decide
theorem dev7_eq (c : Dev nD) : (⟨k0_dev7 c, k0_dev7_lt c⟩ : Dev nD) = pr 0 c := by revert c; decide
theorem dev8_eq (c : Dev nD) : (⟨k0_dev8 c, k0_dev8_lt c⟩ : Dev nD) = pr 1 c := by revert c; decide
theorem dev9_eq (c : Dev nD) : (⟨k0_dev9 c, k0_dev9_lt c⟩ : Dev nD) = pr 2 c := by revert c; decide

variable (X : Dev nD → Big F) (κ : GSem nD τ sig → ℕ)

/-- What a device may consult throughout: the invariants, the levels, and which cells are open. -/
def known (c : Dev nD) : sProp 𝕄 :=
  iprop(invs X κ ∗ levAts L lv ∗ (three fun j => reached ER (barCell (pr j c)) 0) ∗ reached ER (ackCell c) 0
    ∗ (three fun j => reached ER (sendCell c j) 0) ∗ (three fun j => reached ER (recvCell c j) 0))

instance known_persistent (c : Dev nD) : BI.Persistent (known X κ c) := by unfold known; infer_instance

/-- The four semaphores of the copies in, and of the copies out, at zero. -/
abbrev inZero (c : Dev nD) : sProp 𝕄 := four fun i => semVal ((c : Thread nD τ), .dma (inS i)) 0
abbrev outZero (c : Dev nD) : sProp 𝕄 := four fun i => semVal ((c : Thread nD τ), .dma (outS i)) 0

/-- The four copies in, under way. -/
def flying (c : Dev nD) : sProp 𝕄 :=
  iprop(flyIn c (inS 0) 0 inb_S64x64x1024_S16x64x1024_0_0_0 (X c) ∗ flyIn c (inS 1) 16 inb_S64x64x1024_S16x64x1024_16_0_0 (X c)
    ∗ flyIn c (inS 2) 32 inb_S64x64x1024_S16x64x1024_32_0_0 (X c) ∗ flyIn c (inS 3) 48 inb_S64x64x1024_S16x64x1024_48_0_0 (X c))

/-- The copies in are started; the barrier is passed: every peer's row for this device's total is in hand. -/
theorem wp_enter (c : Dev nD) (W : Waits sig Unit) {α : Type} (k : PUnit → KProg F α) (Q : α → sProp 𝕄) :
    iprop(known X κ c ∗ xPts c Finset.univ (X c) ∗ (∃ f, bPts c Finset.univ f) ∗ inZero c ∗ (∃ f, gPts c Finset.univ fullShare f)
        ∗ (three fun j => dutyTok ER (barCell (pr j c)) 0 j.rev) ∗ cred (tallyAt (barCell c) () 3) ∗ atPos ER (barCell c) 0 ∅ 0
        ∗ owes (c : Thread nD τ) (O₀ c) W)
      ⊢ iprop(((flying X c ∗ (∃ f, gPts c (rset 0) fullShare f) ∗ three (barPay c) ∗ atPos ER (barCell c) (0 + 1) ∅ 0
            ∗ ∃ W', owes (c : Thread nD τ) (oR c) W') -∗ wp frame (wpE (defs₀ (F := F)) 𝒱₀ c none) Set.univ (k ⟨⟩) Q)
        -∗ wp frame (wpE (defs₀ (F := F)) 𝒱₀ c none) Set.univ ((enterP c).bind k) Q) := by
  unfold enterP known flying
  simp only [bind, Prog.bind_assoc]
  iintro ⟨⟨#HI, #Hlev, ⟨#Hr0, #Hr1, #Hr2⟩, #Ha, -, ⟨#Hv0, #Hv1, #Hv2⟩⟩, Hx, ⟨%f, Hb⟩, ⟨Hs0, Hs1, Hs2, Hs3⟩, ⟨%g, Hg⟩, ⟨Ht0, Ht1, Ht2⟩, Hcr, Hat, HO⟩ Hk
  ihave Hx' := (Entails.of_eq (xPts_four c (X c))) $$ Hx
  icases Hx' with ⟨Hx0, Hx1, Hx2, Hx3⟩
  ihave Hb' := (Entails.of_eq (bPts_four c f)) $$ Hb
  icases Hb' with ⟨Hb0, Hb1, Hb2, Hb3⟩
  ihave Hg' := (Entails.of_eq (gPts_four c g)) $$ Hg
  icases Hg' with ⟨Hg0, Hg1, Hg2, Hg3⟩
  iapply (wp_copyIn c _ 0 _ f (X c)) $$ [Hx0 Hb0 Hs0]
  · isplitl [Hx0]; · iexact Hx0
    isplitl [Hb0]; · iexact Hb0
    iexact Hs0
  iintro HF0
  iapply (wp_copyIn c _ 16 _ f (X c)) $$ [Hx1 Hb1 Hs1]
  · isplitl [Hx1]; · iexact Hx1
    isplitl [Hb1]; · iexact Hb1
    iexact Hs1
  iintro HF1
  iapply (wp_copyIn c _ 32 _ f (X c)) $$ [Hx2 Hb2 Hs2]
  · isplitl [Hx2]; · iexact Hx2
    isplitl [Hb2]; · iexact Hb2
    iexact Hs2
  iintro HF2
  iapply (wp_copyIn c _ 48 _ f (X c)) $$ [Hx3 Hb3 Hs3]
  · isplitl [Hx3]; · iexact Hx3
    isplitl [Hb3]; · iexact Hb3
    iexact Hs3
  iintro HF3
  iapply (wp_barSignal X κ c 0 _ (dev1_eq c) (oR c + tallyAt (barCell (pr 2 c)) () 1 + tallyAt (barCell (pr 1 c)) () 1) (O₀ c) rfl W) $$ [HO Ht0 Hg3]
  · isplitr; · iexact HI
    isplitr; · iexact Hr0
    isplitl [Ht0]; · iexact Ht0
    isplitl [Hg3]; · iexists g; iexact Hg3
    isplitr; · iexact Hv2
    isplitr; · iexact Ha
    iexact HO
  iintro HO
  iapply (wp_barSignal X κ c 1 _ (dev2_eq c) (oR c + tallyAt (barCell (pr 2 c)) () 1) _ rfl W) $$ [HO Ht1 Hg2]
  · isplitr; · iexact HI
    isplitr; · iexact Hr1
    isplitl [Ht1]; · iexact Ht1
    isplitl [Hg2]; · iexists g; iexact Hg2
    isplitr; · iexact Hv1
    isplitr; · iexact Ha
    iexact HO
  iintro HO
  iapply (wp_barSignal X κ c 2 _ (dev3_eq c) (oR c) _ rfl W) $$ [HO Ht2 Hg1]
  · isplitr; · iexact HI
    isplitr; · iexact Hr2
    isplitl [Ht2]; · iexact Ht2
    isplitl [Hg1]; · iexists g; iexact Hg1
    isplitr; · iexact Hv0
    isplitr; · iexact Ha
    iexact HO
  iintro HO
  iapply (wp_barWait X κ c (oR c) W) $$ [Hcr HO Hat]
  · isplitr; · iexact HI
    isplitl [Hcr]; · iexact Hcr
    isplitl [HO]; · iexact HO
    isplitr; · iapply (mayWait_oR c (.reg barS) (by rw [lv_bar]; decide)); iexact Hlev
    iexact Hat
  iintro ⟨HO, Hat, Hp⟩
  iapply Hk
  isplitl [HF0 HF1 HF2 HF3]
  · isplitl [HF0]; · iexact HF0
    isplitl [HF1]; · iexact HF1
    isplitl [HF2]; · iexact HF2
    iexact HF3
  isplitl [Hg0]; · iexists g; iexact Hg0
  isplitl [Hp]; · iexact Hp
  isplitl [Hat]; · iexact Hat
  iexists _; iexact HO

/-- The four chunks, scanned in place; the operand is whole again. -/
theorem wp_chunks (c : Dev nD) (W : Waits sig Unit) {α : Type} (k : PUnit → KProg F α) (Q : α → sProp 𝕄) :
    iprop(known X κ c ∗ flying X c ∗ owes (c : Thread nD τ) (oR c) W)
      ⊢ iprop(((xPts c Finset.univ (X c) ∗ bPts c Finset.univ (scanned (X c)) ∗ inZero c
            ∗ ∃ W', owes (c : Thread nD τ) (oR c) W') -∗ wp frame (wpE (defs₀ (F := F)) 𝒱₀ c none) Set.univ (k ⟨⟩) Q)
        -∗ wp frame (wpE (defs₀ (F := F)) 𝒱₀ c none) Set.univ (chunksP.bind k) Q) := by
  unfold chunksP known flying
  simp only [bind, Prog.bind_assoc]
  iintro ⟨⟨#HI, #Hlev, -⟩, ⟨HF0, HF1, HF2, HF3⟩, HO⟩ Hk
  iapply (wp_waitIn c _ 0 _ (X c) (oR c) W) $$ [HF0 HO]
  · isplitl [HF0]; · iexact HF0
    isplitl [HO]; · iexact HO
    iapply (mayWait_oR c _ (Nat.lt_of_le_of_lt (lv_in c 0).le (by decide))); iexact Hlev
  iintro ⟨⟨Hb0, Hx0⟩, Hs0, HO⟩
  iapply (wp_scan c 0 _ _ _ _ _ _ _ _ _ _ _ _ _ _ _ _ _ _
    (fun a b => by unfold k0_pay1; exact shapeCast_self _ _) (fun a b => by unfold k0_pay2; exact shapeCast_self _ _)
    (fun a b => by unfold k0_pay3; exact shapeCast_self _ _) (fun a b => by unfold k0_pay4; exact shapeCast_self _ _)
    (fun a b => by unfold k0_pay5; exact shapeCast_self _ _) (fun a b => by unfold k0_pay6; exact shapeCast_self _ _)) $$ Hb0
  iintro Hb0
  iapply (wp_waitIn c _ 16 _ (X c) (oR c) _) $$ [HF1 HO]
  · isplitl [HF1]; · iexact HF1
    isplitl [HO]; · iexact HO
    iapply (mayWait_oR c _ (Nat.lt_of_le_of_lt (lv_in c 1).le (by decide))); iexact Hlev
  iintro ⟨⟨Hb1, Hx1⟩, Hs1, HO⟩
  iapply (wp_scan c 16 _ _ _ _ _ _ _ _ _ _ _ _ _ _ _ _ _ _
    (fun a b => by unfold k0_pay7; exact shapeCast_self _ _) (fun a b => by unfold k0_pay8; exact shapeCast_self _ _)
    (fun a b => by unfold k0_pay9; exact shapeCast_self _ _) (fun a b => by unfold k0_pay10; exact shapeCast_self _ _)
    (fun a b => by unfold k0_pay11; exact shapeCast_self _ _) (fun a b => by unfold k0_pay12; exact shapeCast_self _ _)) $$ Hb1
  iintro Hb1
  iapply (wp_waitIn c _ 32 _ (X c) (oR c) _) $$ [HF2 HO]
  · isplitl [HF2]; · iexact HF2
    isplitl [HO]; · iexact HO
    iapply (mayWait_oR c _ (Nat.lt_of_le_of_lt (lv_in c 2).le (by decide))); iexact Hlev
  iintro ⟨⟨Hb2, Hx2⟩, Hs2, HO⟩
  iapply (wp_scan c 32 _ _ _ _ _ _ _ _ _ _ _ _ _ _ _ _ _ _
    (fun a b => by unfold k0_pay13; exact shapeCast_self _ _) (fun a b => by unfold k0_pay14; exact shapeCast_self _ _)
    (fun a b => by unfold k0_pay15; exact shapeCast_self _ _) (fun a b => by unfold k0_pay17 k0_pay16; exact shapeCast_self _ _)
    (fun a b => by unfold k0_pay18; exact shapeCast_self _ _) (fun a b => by unfold k0_pay19; exact shapeCast_self _ _)) $$ Hb2
  iintro Hb2
  iapply (wp_waitIn c _ 48 _ (X c) (oR c) _) $$ [HF3 HO]
  · isplitl [HF3]; · iexact HF3
    isplitl [HO]; · iexact HO
    iapply (mayWait_oR c _ (Nat.lt_of_le_of_lt (lv_in c 3).le (by decide))); iexact Hlev
  iintro ⟨⟨Hb3, Hx3⟩, Hs3, HO⟩
  iapply (wp_scan c 48 _ _ _ _ _ _ _ _ _ _ _ _ _ _ _ _ _ _
    (fun a b => by unfold k0_pay21 k0_pay20; exact shapeCast_self _ _) (fun a b => by unfold k0_pay22; exact shapeCast_self _ _)
    (fun a b => by unfold k0_pay23; exact shapeCast_self _ _) (fun a b => by unfold k0_pay24; exact shapeCast_self _ _)
    (fun a b => by unfold k0_pay26 k0_pay25; exact shapeCast_self _ _) (fun a b => by unfold k0_pay27; exact shapeCast_self _ _)) $$ Hb3
  iintro Hb3
  iapply Hk
  isplitl [Hx0 Hx1 Hx2 Hx3]
  · rw [xPts_four]
    isplitl [Hx0]; · iexact Hx0
    isplitl [Hx1]; · iexact Hx1
    isplitl [Hx2]; · iexact Hx2
    iexact Hx3
  isplitl [Hb0 Hb1 Hb2 Hb3]
  · rw [bPts_four]
    isplitl [Hb0]; · iexact Hb0
    isplitl [Hb1]; · iexact Hb1
    isplitl [Hb2]; · iexact Hb2
    iexact Hb3
  isplitl [Hs0 Hs1 Hs2 Hs3]
  · isplitl [Hs0]; · iexact Hs0
    isplitl [Hs1]; · iexact Hs1
    isplitl [Hs2]; · iexact Hs2
    iexact Hs3
  iexists _; iexact HO

end Cert.Cumprod

end
-- ==== Proof.Body.lean ====
/-
The rest of the body's run: the exchange of the totals, the acknowledgements, the final scaling with the copies out; and
the run of the whole body.
-/
module

public import proofs.«01_k».proof.Proof.Run

@[expose] public section

set_option maxRecDepth 16384

noncomputable section

namespace Cert.Cumprod

open Cert.KernelIdeal Cert.KernelIdeal.Gen
open Idealize.ShloMosaic Idealize.ShloMosaic.TcCoe
open Idealize.SL Idealize.SL.Sem
open Idealize.SL.BI (sProp Storable bigSep)
open scoped Idealize.SL.BI
open Idealize.SL.BI.BIBase Idealize.SL.BI.Laws Idealize.SL.ProofMode
open Idealize.SL.RA
open Idealize.ShloMosaic.Rounds

variable {F : FTy → Type} [FloatOps F]

local notation "𝕄" => MT nD τ sig Unit (Elt F) ℕ UU ℕ

/-! ## The factors of a chunk -/

/-- Sixteen rows of the factors, spread over their blocks' rows: each element is its block's factor in its column. -/
theorem spread_apply (o : ℕ) (p : FVec F S64x1024 .f32) (hsl : S64x1024.Slices ![o, 0] S16x1024) (x : S16x64x1024.Idx) (i : S64x64x1024.Idx)
    (h0 : (i 0).val = o + (x 0).val) (h2 : (i 2).val = (x 2).val) :
    broadcastTo S16x64x1024 (shapeCast S16x1x1024 (extractStridedSlice S16x1024 ![o, 0] p hsl) shapeCasts_S16x1024_S16x1x1024)
      broadcasts_S16x1x1024_S16x64x1024 x = p (colOf i) := by
  let k : S16x1x1024.Idx := fun a => match a with
    | 0 => x 0
    | 1 => (0 : Fin 1)
    | 2 => x 2
  let l : S16x1024.Idx := fun a => match a with
    | 0 => x 0
    | 1 => x 2
  refine (broadcastTo_apply _ _ x k fun a => ?_).trans ((shapeCast_apply _ _ k l ?_).trans ?_)
  · match a with
    | 0 => rfl
    | 1 => rfl
    | 2 => rfl
  · rw [Shape.rowMajor_val_two, Shape.rowMajor_val_three]
    show (x 0).val * 1024 + (x 2).val = ((x 0).val * 1 + 0) * 1024 + (x 2).val
    omega
  · refine congrArg p (funext fun a => Fin.ext ?_)
    match a with
    | 0 => exact h0.symm
    | 1 => show 0 + (x 2).val = (i 2).val; omega

variable (X : Dev nD → Big F) (κ : GSem nD τ sig → ℕ)

/-- The factors device `c` scales its blocks with, and its result before the last reshape. -/
def factors (c : Dev nD) : FVec F S64x1024 .f32 := k0_pay33 (myWord c) (blockScan (lastOf (scanned (X c)))) (gath X c)
def result (c : Dev nD) : Big F := scaled (factors X c) (scanned (X c))

/-! ## The exchange -/

/-- The total is stored in row 0. -/
theorem wp_put (c : Dev nD) {α : Type} (k : PUnit → KProg F α) (Q : α → sProp 𝕄) :
    (iprop(∃ f, gPts c (rset 0) fullShare f) : sProp 𝕄)
      ⊢ iprop((gPts c (rset 0) fullShare (gath X c) -∗ wp frame (wpE (defs₀ (F := F)) 𝒱₀ c none) Set.univ (k ⟨⟩) Q)
        -∗ wp frame (wpE (defs₀ (F := F)) 𝒱₀ c none) Set.univ ((putTotal (lastOf (scanned (X c)))).bind k) Q) := by
  simp only [putTotal, Prog.lift, Prog.bind_op, Prog.bind_ret, bind, Prog.pure_eq_ret]
  iintro ⟨%f, Hg⟩ Hk
  iapply (wp_load 𝒱₀ (c : Thread nD τ) none Set.univ row0_load) $$ Hg
  iintro Hg
  iapply (wp_store 𝒱₀ (c : Thread nD τ) none Set.univ row0_store) $$ Hg
  iintro Hg
  iapply Hk
  iapply (Entails.of_eq (pointsTo_congr (put_row X c f))) $$ Hg

/-- The last rows are loaded. -/
theorem wp_last (c : Dev nD) (f : Big F) {α : Type} (k : Vec F S64x1x1024 .f32 → KProg F α) (Q : α → sProp 𝕄) :
    bPts c Finset.univ f
      ⊢ iprop((bPts c Finset.univ f -∗ wp frame (wpE (defs₀ (F := F)) 𝒱₀ c none) Set.univ (k (lastOf f)) Q)
        -∗ wp frame (wpE (defs₀ (F := F)) 𝒱₀ c none) Set.univ (lastRows.bind k) Q) := by
  simp only [lastRows, Prog.lift, Prog.bind_op, Prog.bind_ret, bind, Prog.pure_eq_ret]
  exact wp_load 𝒱₀ (c : Thread nD τ) none Set.univ (Finset.subset_univ _)

theorem allTotals_eq (f : S4x1024.Idx → Elt F .f32) :
    (gM : Memref sig .tc .vmem S4x1024 .f32).view.readAt (Elt F) (Rect.unit (s := S4x1024) ![0, 0] S4x1024.size inb_S4x1024_S4x1024_0_0).toLoadRect f = f :=
  Memref.readAt_unit_zero (Elt F) cc0_scratch1 (by decide) inb_S4x1024_S4x1024_0_0 f

/-- The four totals are loaded. -/
theorem wp_totals (c : Dev nD) (f : S4x1024.Idx → Elt F .f32) {α : Type} (k : Vec F S4x1024 .f32 → KProg F α) (Q : α → sProp 𝕄) :
    gPts c Finset.univ fullShare f
      ⊢ iprop((gPts c Finset.univ fullShare f -∗ wp frame (wpE (defs₀ (F := F)) 𝒱₀ c none) Set.univ (k f) Q)
        -∗ wp frame (wpE (defs₀ (F := F)) 𝒱₀ c none) Set.univ (allTotals.bind k) Q) := by
  simp only [allTotals, Prog.lift, Prog.bind_op, Prog.bind_ret, bind, Prog.pure_eq_ret]
  have h := wp_load (k := k) (Q := Q) (q := fullShare) (f := f) (defs := defs₀ (F := F)) (Γ := .empty) (hl := View.loadsAt_vmem h_S4x1024) 𝒱₀ (c : Thread nD τ) none Set.univ (m := gM) (r := (Rect.unit (s := S4x1024) ![0, 0] S4x1024.size inb_S4x1024_S4x1024_0_0).toLoadRect) (Finset.subset_univ _)
  rw [allTotals_eq] at h
  exact h

/-- The rows are exchanged: every copy sent and awaited, every total received. -/
theorem wp_exchange (c : Dev nD) (W : Waits sig Unit) {α : Type} (k : PUnit → KProg F α) (Q : α → sProp 𝕄) :
    iprop(known X κ c ∗ gPts c (rset 0) fullShare (gath X c) ∗ three (barPay c)
        ∗ (three fun j => dutyTok ER (sendCell c j) 0 0) ∗ (three fun j => dutyTok ER (recvCell (pr j c) j) 0 0)
        ∗ (three fun j => cred (tallyAt (recvCell c j) () N)) ∗ (three fun j => atPos ER (sendCell c j) 0 ∅ 0)
        ∗ (three fun j => atPos ER (recvCell c j) 0 ∅ 0) ∗ owes (c : Thread nD τ) (oR c) W)
      ⊢ iprop(((gPts c Finset.univ fullShare (gath X c) ∗ (three fun j => atPos ER (sendCell c j) (0 + 1) ∅ 0)
            ∗ (three fun j => atPos ER (recvCell c j) (0 + 1) ∅ 0) ∗ (three fun j => reached ER (ackCell (pr j c)) 0)
            ∗ ∃ W', owes (c : Thread nD τ) (oA c) W') -∗ wp frame (wpE (defs₀ (F := F)) 𝒱₀ c none) Set.univ (k ⟨⟩) Q)
        -∗ wp frame (wpE (defs₀ (F := F)) 𝒱₀ c none) Set.univ ((exchangeP c).bind k) Q) := by
  unfold exchangeP known barPay
  simp only [bind, Prog.bind_assoc]
  iintro ⟨⟨#HI, #Hlev, -, -, ⟨#Hs0, #Hs1, #Hs2⟩, -⟩, Hg, ⟨⟨Hd0, #Hv0, #Ha0⟩, ⟨Hd1, #Hv1, #Ha1⟩, ⟨Hd2, #Hv2, #Ha2⟩⟩, ⟨Hts0, Hts1, Hts2⟩,
    ⟨Htr0, Htr1, Htr2⟩, ⟨Hc0, Hc1, Hc2⟩, ⟨Has0, Has1, Has2⟩, ⟨Hav0, Hav1, Hav2⟩, HO⟩ Hk
  ihave Hg' := (Ring.pointsTo_thirds fullShare (gath X c)).1 $$ Hg
  icases Hg' with ⟨Hg0, Hg1, Hg2⟩
  iapply (wp_sendRow X κ c 0 _ (dev4_eq c) _ _ rfl rfl 1 rfl _ (oA c + tallyAt (recvCell (pr 2 c) 2) () N + tallyAt (recvCell (pr 1 c) 1) () N) (oR c) rfl W)
    $$ [Hg0 Hd0 HO Hts0 Htr0]
  · isplitr; · iexact HI
    isplitl [Hg0]; · iexact Hg0
    isplitl [Hd0]; · iexact Hd0
    isplitl [HO]; · iexact HO
    isplitl [Hts0]; · iexact Hts0
    isplitr; · iexact Hs0
    isplitl [Htr0]; · iexact Htr0
    iexact Hv0
  iintro ⟨Hcs0, HO⟩
  iapply (wp_sendRow X κ c 1 _ (dev5_eq c) _ _ rfl rfl 2 rfl _ (oA c + tallyAt (recvCell (pr 2 c) 2) () N) _ rfl W) $$ [Hg1 Hd1 HO Hts1 Htr1]
  · isplitr; · iexact HI
    isplitl [Hg1]; · iexact Hg1
    isplitl [Hd1]; · iexact Hd1
    isplitl [HO]; · iexact HO
    isplitl [Hts1]; · iexact Hts1
    isplitr; · iexact Hs1
    isplitl [Htr1]; · iexact Htr1
    iexact Hv1
  iintro ⟨Hcs1, HO⟩
  iapply (wp_sendRow X κ c 2 _ (dev6_eq c) _ _ rfl rfl 3 rfl _ (oA c) _ rfl W) $$ [Hg2 Hd2 HO Hts2 Htr2]
  · isplitr; · iexact HI
    isplitl [Hg2]; · iexact Hg2
    isplitl [Hd2]; · iexact Hd2
    isplitl [HO]; · iexact HO
    isplitl [Hts2]; · iexact Hts2
    isplitr; · iexact Hs2
    isplitl [Htr2]; · iexact Htr2
    iexact Hv2
  iintro ⟨Hcs2, HO⟩
  iapply (wp_sentRow X κ c 0 _ rfl 1 _ (oA c) _) $$ [Hcs0 HO Has0]
  · isplitr; · iexact HI
    isplitl [Hcs0]; · iexact Hcs0
    isplitl [HO]; · iexact HO
    isplitr; · iapply (mayWait_oA c _ ((lv_send c 0).trans_lt (by decide))); iexact Hlev
    iexact Has0
  iintro ⟨HO, Has0, Hg0⟩
  iapply (wp_gotRow X κ c 0 _ rfl 1 _ (oA c) _) $$ [Hc0 HO Hav0]
  · isplitr; · iexact HI
    isplitl [Hc0]; · iexact Hc0
    isplitl [HO]; · iexact HO
    isplitr; · iapply (mayWait_oA c _ ((lv_recv c 0).trans_lt (by decide))); iexact Hlev
    iexact Hav0
  iintro ⟨HO, Hav0, Hr1⟩
  iapply (wp_sentRow X κ c 1 _ rfl 2 _ (oA c) _) $$ [Hcs1 HO Has1]
  · isplitr; · iexact HI
    isplitl [Hcs1]; · iexact Hcs1
    isplitl [HO]; · iexact HO
    isplitr; · iapply (mayWait_oA c _ ((lv_send c 1).trans_lt (by decide))); iexact Hlev
    iexact Has1
  iintro ⟨HO, Has1, Hg1⟩
  iapply (wp_gotRow X κ c 1 _ rfl 2 _ (oA c) _) $$ [Hc1 HO Hav1]
  · isplitr; · iexact HI
    isplitl [Hc1]; · iexact Hc1
    isplitl [HO]; · iexact HO
    isplitr; · iapply (mayWait_oA c _ ((lv_recv c 1).trans_lt (by decide))); iexact Hlev
    iexact Hav1
  iintro ⟨HO, Hav1, Hr2⟩
  iapply (wp_sentRow X κ c 2 _ rfl 3 _ (oA c) _) $$ [Hcs2 HO Has2]
  · isplitr; · iexact HI
    isplitl [Hcs2]; · iexact Hcs2
    isplitl [HO]; · iexact HO
    isplitr; · iapply (mayWait_oA c _ ((lv_send c 2).trans_lt (by decide))); iexact Hlev
    iexact Has2
  iintro ⟨HO, Has2, Hg2⟩
  iapply (wp_gotRow X κ c 2 _ rfl 3 _ (oA c) _) $$ [Hc2 HO Hav2]
  · isplitr; · iexact HI
    isplitl [Hc2]; · iexact Hc2
    isplitl [HO]; · iexact HO
    isplitr; · iapply (mayWait_oA c _ ((lv_recv c 2).trans_lt (by decide))); iexact Hlev
    iexact Hav2
  iintro ⟨HO, Hav2, Hr3⟩
  iapply Hk
  isplitl [Hg0 Hg1 Hg2 Hr1 Hr2 Hr3]
  · rw [gPts_four]
    unfold sendPay recvPay
    isplitl [Hg0 Hg1 Hg2]
    · iapply (Ring.pointsTo_thirds fullShare (gath X c)).2
      isplitl [Hg0]; · iexact Hg0
      isplitl [Hg1]; · iexact Hg1
      iexact Hg2
    isplitl [Hr1]; · iexact Hr1
    isplitl [Hr2]; · iexact Hr2
    iexact Hr3
  isplitl [Has0 Has1 Has2]
  · isplitl [Has0]; · iexact Has0
    isplitl [Has1]; · iexact Has1
    iexact Has2
  isplitl [Hav0 Hav1 Hav2]
  · isplitl [Hav0]; · iexact Hav0
    isplitl [Hav1]; · iexact Hav1
    iexact Hav2
  isplitr
  · isplitr; · iexact Ha0
    isplitr; · iexact Ha1
    iexact Ha2
  iexists _; iexact HO

/-- The three acknowledgements are sent: nothing is owed any more. -/
theorem wp_acks (c : Dev nD) (W : Waits sig Unit) {α : Type} (k : PUnit → KProg F α) (Q : α → sProp 𝕄) :
    iprop(known X κ c ∗ (three fun j => reached ER (ackCell (pr j c)) 0) ∗ (three fun j => dutyTok ER (ackCell (pr j c)) 0 j.rev)
        ∗ owes (c : Thread nD τ) (oA c) W)
      ⊢ iprop((owes (c : Thread nD τ) 0 W -∗ wp frame (wpE (defs₀ (F := F)) 𝒱₀ c none) Set.univ (k ⟨⟩) Q)
        -∗ wp frame (wpE (defs₀ (F := F)) 𝒱₀ c none) Set.univ ((acksP c).bind k) Q) := by
  unfold acksP known
  simp only [bind, Prog.bind_assoc]
  iintro ⟨⟨#HI, -⟩, ⟨#Ha0, #Ha1, #Ha2⟩, ⟨Ht0, Ht1, Ht2⟩, HO⟩ Hk
  iapply (wp_ackSignal X κ c 0 _ (dev7_eq c) (tallyAt (ackCell (pr 2 c)) () 1 + tallyAt (ackCell (pr 1 c)) () 1) (oA c) rfl W) $$ [HO Ht0]
  · isplitr; · iexact HI
    isplitr; · iexact Ha0
    isplitl [Ht0]; · iexact Ht0
    iexact HO
  iintro HO
  iapply (wp_ackSignal X κ c 1 _ (dev8_eq c) (tallyAt (ackCell (pr 2 c)) () 1) _ rfl W) $$ [HO Ht1]
  · isplitr; · iexact HI
    isplitr; · iexact Ha1
    isplitl [Ht1]; · iexact Ht1
    iexact HO
  iintro HO
  iapply (wp_ackSignal X κ c 2 _ (dev9_eq c) 0 _ (zero_add _).symm W) $$ [HO Ht2]
  · isplitr; · iexact HI
    isplitr; · iexact Ha2
    isplitl [Ht2]; · iexact Ht2
    iexact HO
  iintro HO
  iapply Hk $$ HO

/-! ## The end -/

/-- The chunks are scaled and copied out, and the acknowledgements awaited. -/
theorem wp_finish (c : Dev nD) (W : Waits sig Unit) {α : Type} (k : PUnit → KProg F α) (Q : α → sProp 𝕄) :
    iprop(known X κ c ∗ bPts c Finset.univ (scanned (X c)) ∗ (∃ f, yPts c Finset.univ f) ∗ outZero c
        ∗ cred (tallyAt (ackCell c) () 3) ∗ atPos ER (ackCell c) 0 ∅ 0 ∗ owes (c : Thread nD τ) 0 W)
      ⊢ iprop(((yPts c Finset.univ (result X c) ∗ bPts c Finset.univ (result X c) ∗ outZero c ∗ atPos ER (ackCell c) (0 + 1) ∅ 0
            ∗ ∃ W', owes (c : Thread nD τ) 0 W') -∗ wp frame (wpE (defs₀ (F := F)) 𝒱₀ c none) Set.univ (k ⟨⟩) Q)
        -∗ wp frame (wpE (defs₀ (F := F)) 𝒱₀ c none) Set.univ
            ((finishP (myWord c) (blockScan (lastOf (scanned (X c)))) (gath X c)).bind k) Q) := by
  unfold finishP known
  simp only [bind, Prog.bind_assoc]
  iintro ⟨⟨#HI, -⟩, Hb, ⟨%f, Hy⟩, ⟨Hs0, Hs1, Hs2, Hs3⟩, Hcr, Hat, HO⟩ Hk
  ihave Hb' := (Entails.of_eq (bPts_four c _)) $$ Hb
  icases Hb' with ⟨Hb0, Hb1, Hb2, Hb3⟩
  ihave Hy' := (Entails.of_eq (yPts_four c f)) $$ Hy
  icases Hy' with ⟨Hy0, Hy1, Hy2, Hy3⟩
  iapply (wp_scale c 0 _ (factors X c) _ (fun a x i h0 h1 h2 => by
    unfold k0_pay34; exact (congrFun (shapeCast_self _ _) x).trans (congrArg _ (spread_apply 0 _ _ x i h0 h2)))) $$ Hb0
  iintro Hb0
  iapply (wp_copyOut c _ 0 _ f (result X c)) $$ [Hb0 Hy0 Hs0]
  · isplitl [Hb0]; · iexact Hb0
    isplitl [Hy0]; · iexact Hy0
    iexact Hs0
  iintro HF0
  iapply (wp_scale c 16 _ (factors X c) _ (fun a x i h0 h1 h2 => by
    unfold k0_pay36 k0_pay35; exact (congrFun (shapeCast_self _ _) x).trans (congrArg _ (spread_apply 16 _ _ x i h0 h2)))) $$ Hb1
  iintro Hb1
  iapply (wp_copyOut c _ 16 _ f (result X c)) $$ [Hb1 Hy1 Hs1]
  · isplitl [Hb1]; · iexact Hb1
    isplitl [Hy1]; · iexact Hy1
    iexact Hs1
  iintro HF1
  iapply (wp_scale c 32 _ (factors X c) _ (fun a x i h0 h1 h2 => by
    unfold k0_pay37; exact (congrFun (shapeCast_self _ _) x).trans (congrArg _ (spread_apply 32 _ _ x i h0 h2)))) $$ Hb2
  iintro Hb2
  iapply (wp_copyOut c _ 32 _ f (result X c)) $$ [Hb2 Hy2 Hs2]
  · isplitl [Hb2]; · iexact Hb2
    isplitl [Hy2]; · iexact Hy2
    iexact Hs2
  iintro HF2
  iapply (wp_scale c 48 _ (factors X c) _ (fun a x i h0 h1 h2 => by
    unfold k0_pay39 k0_pay38; exact (congrFun (shapeCast_self _ _) x).trans (congrArg _ (spread_apply 48 _ _ x i h0 h2)))) $$ Hb3
  iintro Hb3
  iapply (wp_copyOut c _ 48 _ f (result X c)) $$ [Hb3 Hy3 Hs3]
  · isplitl [Hb3]; · iexact Hb3
    isplitl [Hy3]; · iexact Hy3
    iexact Hs3
  iintro HF3
  iapply (wp_waitOut c _ 0 _ (result X c) 0 W) $$ [HF0 HO]
  · isplitl [HF0]; · iexact HF0
    isplitl [HO]; · iexact HO
    rw [MayWait_zero]; iempintro
  iintro ⟨⟨Hy0, Hb0⟩, Hs0, HO⟩
  iapply (wp_waitOut c _ 16 _ (result X c) 0 _) $$ [HF1 HO]
  · isplitl [HF1]; · iexact HF1
    isplitl [HO]; · iexact HO
    rw [MayWait_zero]; iempintro
  iintro ⟨⟨Hy1, Hb1⟩, Hs1, HO⟩
  iapply (wp_waitOut c _ 32 _ (result X c) 0 _) $$ [HF2 HO]
  · isplitl [HF2]; · iexact HF2
    isplitl [HO]; · iexact HO
    rw [MayWait_zero]; iempintro
  iintro ⟨⟨Hy2, Hb2⟩, Hs2, HO⟩
  iapply (wp_waitOut c _ 48 _ (result X c) 0 _) $$ [HF3 HO]
  · isplitl [HF3]; · iexact HF3
    isplitl [HO]; · iexact HO
    rw [MayWait_zero]; iempintro
  iintro ⟨⟨Hy3, Hb3⟩, Hs3, HO⟩
  iapply (wp_ackWait X κ c 0 _) $$ [Hcr HO Hat]
  · isplitr; · iexact HI
    isplitl [Hcr]; · iexact Hcr
    isplitl [HO]; · iexact HO
    isplitr; · rw [MayWait_zero]; iempintro
    iexact Hat
  iintro ⟨HO, Hat⟩
  iapply Hk
  isplitl [Hy0 Hy1 Hy2 Hy3]
  · rw [yPts_four]
    isplitl [Hy0]; · iexact Hy0
    isplitl [Hy1]; · iexact Hy1
    isplitl [Hy2]; · iexact Hy2
    iexact Hy3
  isplitl [Hb0 Hb1 Hb2 Hb3]
  · rw [bPts_four]
    isplitl [Hb0]; · iexact Hb0
    isplitl [Hb1]; · iexact Hb1
    isplitl [Hb2]; · iexact Hb2
    iexact Hb3
  isplitl [Hs0 Hs1 Hs2 Hs3]
  · isplitl [Hs0]; · iexact Hs0
    isplitl [Hs1]; · iexact Hs1
    isplitl [Hs2]; · iexact Hs2
    iexact Hs3
  isplitl [Hat]; · iexact Hat
  iexists _; iexact HO

/-! ## The whole body -/

/-- The exchange's cells as the body finds them: its places, its duties' tokens and the credits it waits with. -/
def places (c : Dev nD) : sProp 𝕄 :=
  iprop(atPos ER (barCell c) 0 ∅ 0 ∗ atPos ER (ackCell c) 0 ∅ 0 ∗ (three fun j => atPos ER (sendCell c j) 0 ∅ 0)
    ∗ (three fun j => atPos ER (recvCell c j) 0 ∅ 0))
def tokens (c : Dev nD) : sProp 𝕄 :=
  iprop((three fun j => dutyTok ER (barCell (pr j c)) 0 j.rev) ∗ (three fun j => dutyTok ER (ackCell (pr j c)) 0 j.rev)
    ∗ (three fun j => dutyTok ER (sendCell c j) 0 0) ∗ (three fun j => dutyTok ER (recvCell (pr j c) j) 0 0))
def credits (c : Dev nD) : sProp 𝕄 :=
  iprop(cred (tallyAt (barCell c) () 3) ∗ cred (tallyAt (ackCell c) () 3) ∗ (three fun j => cred (tallyAt (recvCell c j) () N)))

/-- Before the body. -/
def bodyPre (c : Dev nD) (W : Waits sig Unit) : sProp 𝕄 :=
  iprop(known X κ c ∗ places c ∗ tokens c ∗ credits c ∗ inZero c ∗ outZero c ∗ xPts c Finset.univ (X c) ∗ (∃ f, yPts c Finset.univ f)
    ∗ (∃ f, bPts c Finset.univ f) ∗ (∃ f, gPts c Finset.univ fullShare f) ∗ owes (c : Thread nD τ) (O₀ c) W)

/-- The exchange's counters, all at zero. -/
def cellsZero (c : Dev nD) : sProp 𝕄 :=
  iprop(semVal (ackCell c) 0 ∗ (three fun j => semVal (sendCell c j) 0) ∗ (three fun j => semVal (recvCell c j) 0))

/-- After the body: every counter back at zero, the operand unchanged, the result in place, nothing owed. -/
def bodyPost (c : Dev nD) : sProp 𝕄 :=
  iprop(semVal (barCell c) 0 ∗ cellsZero c ∗ inZero c ∗ outZero c ∗ xPts c Finset.univ (X c) ∗ yPts c Finset.univ (result X c)
    ∗ (∃ f, bPts c Finset.univ f) ∗ (∃ f, gPts c Finset.univ fullShare f) ∗ ∃ W', owes (c : Thread nD τ) (0 : CellTallies nD τ sig Unit) W')

theorem body_run (c : Dev nD) (W : Waits sig Unit) (Kt : PUnit → sProp 𝕄) :
    iprop(bodyPre X κ c W ∗ (bodyPost X c -∗ Kt ⟨⟩)) ⊢ wp frame (wpE (defs₀ (F := F)) 𝒱₀ c none) Set.univ (phases (F := F)) Kt := by
  unfold phases bodyPre places tokens credits
  rw [Prog.bind_lift, wp_deviceId]
  simp only [bind]
  iintro ⟨⟨#Hkn, ⟨HaB, HaA, HaS, HaV⟩, ⟨HtB, HtA, HtS, HtV⟩, ⟨HcB, HcA, HcV⟩, Hin, Hout, Hx, Hy, Hb, Hg, HO⟩, Hk⟩
  iapply (wp_enter X κ c W) $$ [Hx Hb Hin Hg HtB HcB HaB HO]
  · isplitr; · iexact Hkn
    isplitl [Hx]; · iexact Hx
    isplitl [Hb]; · iexact Hb
    isplitl [Hin]; · iexact Hin
    isplitl [Hg]; · iexact Hg
    isplitl [HtB]; · iexact HtB
    isplitl [HcB]; · iexact HcB
    isplitl [HaB]; · iexact HaB
    iexact HO
  iintro ⟨Hfl, Hg, Hp, HaB, ⟨%W1, HO⟩⟩
  iapply (wp_chunks X κ c W1) $$ [Hfl HO]
  · isplitr; · iexact Hkn
    isplitl [Hfl]; · iexact Hfl
    iexact HO
  iintro ⟨Hx, Hb, Hin, ⟨%W2, HO⟩⟩
  iapply (wp_last c (scanned (X c))) $$ Hb
  iintro Hb
  iapply (wp_put X c) $$ Hg
  iintro Hg
  iapply (wp_exchange X κ c W2) $$ [Hg Hp HtS HtV HcV HaS HaV HO]
  · isplitr; · iexact Hkn
    isplitl [Hg]; · iexact Hg
    isplitl [Hp]; · iexact Hp
    isplitl [HtS]; · iexact HtS
    isplitl [HtV]; · iexact HtV
    isplitl [HcV]; · iexact HcV
    isplitl [HaS]; · iexact HaS
    isplitl [HaV]; · iexact HaV
    iexact HO
  iintro ⟨Hg, ⟨HaS0, HaS1, HaS2⟩, ⟨HaV0, HaV1, HaV2⟩, Hra, ⟨%W3, HO⟩⟩
  iapply (wp_totals c (gath X c)) $$ Hg
  iintro Hg
  iapply (wp_acks X κ c W3) $$ [Hra HtA HO]
  · isplitr; · iexact Hkn
    isplitl [Hra]; · iexact Hra
    isplitl [HtA]; · iexact HtA
    iexact HO
  iintro HO
  rw [show (finishP (myWord c) (blockScan (lastOf (scanned (X c)))) (gath X c) : KProg F PUnit)
    = (finishP (myWord c) (blockScan (lastOf (scanned (X c)))) (gath X c)).bind .ret from (Prog.bind_pure _).symm]
  iapply (wp_finish X κ c W3) $$ [Hb Hy Hout HcA HaA HO]
  · isplitr; · iexact Hkn
    isplitl [Hb]; · iexact Hb
    isplitl [Hy]; · iexact Hy
    isplitl [Hout]; · iexact Hout
    isplitl [HcA]; · iexact HcA
    isplitl [HaA]; · iexact HaA
    iexact HO
  iintro ⟨Hy, Hb, Hout, HaA, ⟨%W4, HO⟩⟩
  unfold known
  icases Hkn with ⟨#HI, -⟩
  rw [wp_ret]
  imod (close X κ (bar_mem c)) $$ [HaB] with HzB
  · isplitr; · iexact HI
    iexact HaB
  imod (close X κ (ack_mem c)) $$ [HaA] with HzA
  · isplitr; · iexact HI
    iexact HaA
  imod (close X κ (send_mem c 0)) $$ [HaS0] with HzS0
  · isplitr; · iexact HI
    iexact HaS0
  imod (close X κ (send_mem c 1)) $$ [HaS1] with HzS1
  · isplitr; · iexact HI
    iexact HaS1
  imod (close X κ (send_mem c 2)) $$ [HaS2] with HzS2
  · isplitr; · iexact HI
    iexact HaS2
  imod (close X κ (recv_mem c 0)) $$ [HaV0] with HzV0
  · isplitr; · iexact HI
    iexact HaV0
  imod (close X κ (recv_mem c 1)) $$ [HaV1] with HzV1
  · isplitr; · iexact HI
    iexact HaV1
  imod (close X κ (recv_mem c 2)) $$ [HaV2] with HzV2
  · isplitr; · iexact HI
    iexact HaV2
  imodintro
  iapply Hk
  unfold bodyPost cellsZero
  isplitl [HzB]; · iexact HzB
  isplitl [HzA HzS0 HzS1 HzS2 HzV0 HzV1 HzV2]
  · isplitl [HzA]; · iexact HzA
    isplitl [HzS0 HzS1 HzS2]
    · isplitl [HzS0]; · iexact HzS0
      isplitl [HzS1]; · iexact HzS1
      iexact HzS2
    isplitl [HzV0]; · iexact HzV0
    isplitl [HzV1]; · iexact HzV1
    iexact HzV2
  isplitl [Hin]; · iexact Hin
  isplitl [Hout]; · iexact Hout
  isplitl [Hx]; · iexact Hx
  isplitl [Hy]; · iexact Hy
  isplitl [Hb]; · iexists _; iexact Hb
  isplitl [Hg]; · iexists _; iexact Hg
  iexists W4; iexact HO

end Cert.Cumprod

end
-- ==== Proof.Products.lean ====
/-
The pieces of the body over the extended reals, as products: a doubling scan, the scan over the blocks, the total and the
factors taken from the totals before.
-/
module

public import proofs.«01_k».proof.Proof.Body
public import Idealize.ShloMosaic.Lib.IdealHost

@[expose] public section

set_option maxRecDepth 16384

noncomputable section

namespace Cert.Cumprod

open Cert.KernelIdeal Cert.KernelIdeal.Gen
open Idealize.ShloMosaic Idealize.ShloMosaic.TcCoe

/-! ## Products over ranges -/

section Range

variable {M : Type} [CommMonoid M]

/-- The product of the last `w` entries up to `i`, of those there are. -/
def window (g : ℕ → M) (w i : ℕ) : M := ∏ r ∈ Finset.range (min w (i + 1)), g (i - r)

theorem window_one (g : ℕ → M) (i : ℕ) : window g 1 i = g i := by
  unfold window; rw [min_eq_left (by omega)]; simp

/-- Doubling: a window of `2 w` is a window of `w` times the one `w` before, if there is one. -/
theorem window_double (g : ℕ → M) (w i : ℕ) :
    window g (2 * w) i = if w ≤ i then window g w i * window g w (i - w) else window g w i := by
  unfold window
  by_cases h : w ≤ i
  · rw [if_pos h, min_eq_left (show w ≤ i + 1 by omega),
      show min (2 * w) (i + 1) = w + min w (i - w + 1) by omega, Finset.prod_range_add]
    congr 1
    refine Finset.prod_congr rfl fun r _ => congrArg g ?_
    omega
  · rw [if_neg h, show min (2 * w) (i + 1) = min w (i + 1) by omega]

/-- A window that reaches the start is the product of the entries up to `i`. -/
theorem window_full (g : ℕ → M) (w i : ℕ) (h : i < w) : window g w i = ∏ r ∈ Finset.range (i + 1), g r := by
  unfold window
  rw [min_eq_right (by omega), ← Finset.prod_range_reflect g]
  rfl

/-- A product of `n` groups of `k`. -/
theorem prod_groups (g : ℕ → M) (k : ℕ) : ∀ n, ∏ q ∈ Finset.range (n * k), g q = ∏ i ∈ Finset.range n, ∏ j ∈ Finset.range k, g (i * k + j)
  | 0 => by simp
  | n + 1 => by rw [Nat.succ_mul, Finset.prod_range_add, prod_groups g k n, Finset.prod_range_succ]

end Range

/-! ## The scan inside the blocks -/

/-- Row `r` of block `b`, column `n`. -/
def at3 (b r : Fin 64) (n : Fin 1024) : S64x64x1024.Idx := fun a => match a with
  | 0 => b
  | 1 => r
  | 2 => n

/-- The rows of a block, in one column. -/
def rows (f : Big Ideal) (b : Fin 64) (n : Fin 1024) (r : ℕ) : EReal := if h : r < 64 then f (at3 b ⟨r, h⟩ n) else 1

theorem rows_self (f : Big Ideal) (i : S64x64x1024.Idx) : rows f (i 0) (i 2) (i 1).val = f i := by
  unfold rows
  refine (dif_pos (i 1).isLt).trans (congrArg f (funext fun a => ?_))
  match a with
  | 0 => rfl
  | 1 => rfl
  | 2 => rfl

/-- Every place of `f` holds the product of the last `w` rows of `f₀` in its block. -/
def Windows (f₀ : Big Ideal) (w : ℕ) (f : Big Ideal) : Prop := ∀ i, f i = window (rows f₀ (i 0) (i 2)) w (i 1).val

theorem windows_one (f : Big Ideal) : Windows f 1 f := fun i => by rw [window_one, rows_self]

theorem windows_stage (f₀ f : Big Ideal) (w : ℕ) (h : Windows f₀ w f) : Windows f₀ (2 * w) (stage w f) := fun i => by
  rw [window_double]
  unfold stage
  by_cases hw : w ≤ (i 1).val
  · rw [if_pos hw, if_pos hw, h i, h (back w i)]
    rfl
  · rw [if_neg hw, if_neg hw, h i]

/-- After the six stages every row is the product of the rows of its block up to it. -/
theorem scanned_prod (f : Big Ideal) (i : S64x64x1024.Idx) :
    scanned f i = ∏ r ∈ Finset.range ((i 1).val + 1), rows f (i 0) (i 2) r := by
  rw [← window_full _ 64 _ (i 1).isLt]
  exact windows_stage f _ 32 (windows_stage f _ 16 (windows_stage f _ 8 (windows_stage f _ 4 (windows_stage f _ 2 (windows_stage f _ 1 (windows_one f)))))) i

/-- The last row of every block is the block's product. -/
theorem lastOf_prod (f : Big Ideal) (i : S64x1x1024.Idx) : lastOf (scanned f) i = ∏ r ∈ Finset.range 64, rows f (i 0) (i 2) r := by
  have h1 : (i 1).val < 1 := (i 1).isLt
  have e : lastOf (scanned f) i = scanned f (at3 (i 0) 63 (i 2)) := by
    refine congrArg (scanned f) (funext fun a => Fin.ext ?_)
    match a with
    | 0 => show 0 + 1 * (i 0).val = (i 0).val; omega
    | 1 => show 63 + 1 * (i 1).val = 63; omega
    | 2 => show 0 + 1 * (i 2).val = (i 2).val; omega
  rw [e, scanned_prod]
  rfl

/-! ## Matrices of a few rows -/

/-- The matrices of `n` rows. -/
abbrev Tall (n : ℕ) : Shape := ⟨2, ![n, 1024]⟩

/-- Row `r`, column `c`. -/
def atT {n : ℕ} (r : Fin n) (c : Fin 1024) : (Tall n).Idx := fun a => match a with
  | 0 => r
  | 1 => c

/-- A column's entries. -/
def column {n : ℕ} (v : (Tall n).Idx → EReal) (c : Fin 1024) (r : ℕ) : EReal := if h : r < n then v (atT ⟨r, h⟩ c) else 1

theorem atT_self {n : ℕ} (i : (Tall n).Idx) : atT (i 0) (i 1) = i := funext fun a => by
  match a with
  | 0 => rfl
  | 1 => rfl

theorem column_of_lt {n : ℕ} (v : (Tall n).Idx → EReal) (c : Fin 1024) {r : ℕ} (h : r < n) : column v c r = v (atT ⟨r, h⟩ c) := dif_pos h

theorem column_self {n : ℕ} (v : (Tall n).Idx → EReal) (i : (Tall n).Idx) : column v (i 1) (i 0).val = v i :=
  (dif_pos (i 0).isLt).trans (congrArg v (atT_self i))

/-- The entry `k` rows above. -/
def upT {n : ℕ} (k : ℕ) (i : (Tall n).Idx) : (Tall n).Idx := atT ⟨(i 0).val - k, Nat.lt_of_le_of_lt (Nat.sub_le _ _) (i 0).isLt⟩ (i 1)

/-- Rows of ones above the upper rows of a matrix: the matrix moved down. -/
theorem shift_apply (k l : ℕ) (x : EReal) (v : S64x1024.Idx → EReal) (hs : S64x1024.Slices ![0, 0] (Tall l))
    (hc : Shape.Concatenates [Tall k, Tall l] S64x1024 0) (i : S64x1024.Idx) :
    concatenate S64x1024 0 [⟨Tall k, broadcast (Tall k) x⟩, ⟨Tall l, extractStridedSlice (Tall l) ![0, 0] v hs⟩] hc i
      = if k ≤ (i 0).val then v (upT k i) else x := by
  have hl : k + (l + 0) = 64 := hc.2.2
  have h0 : (i 0).val < 64 := (i 0).isLt
  by_cases h : k ≤ (i 0).val
  · rw [if_pos h]
    refine (concatenate_pair_apply_right 0 _ _ hc i rfl rfl (atT ⟨(i 0).val - k, by omega⟩ (i 1)) (fun b hb => ?_) ?_).trans ?_
    · match b with
      | 0 => exact absurd rfl hb
      | 1 => rfl
    · show (i 0).val - k + k = (i 0).val
      omega
    · unfold extractStridedSlice
      refine congrArg v (funext fun a => Fin.ext ?_)
      match a with
      | 0 => show 0 + ((i 0).val - k) = (i 0).val - k; omega
      | 1 => show 0 + (i 1).val = (i 1).val; omega
  · rw [if_neg h]
    exact concatenate_pair_apply_left 0 _ _ hc i rfl (atT ⟨(i 0).val, by omega⟩ (i 1)) fun b => by
      match b with
      | 0 => rfl
      | 1 => rfl

/-- Every entry of `v` is the product of the last `w` entries of `v₀` in its column. -/
def WindowsT (v₀ : S64x1024.Idx → EReal) (w : ℕ) (v : S64x1024.Idx → EReal) : Prop :=
  ∀ (i : S64x1024.Idx) (c : Fin 1024), c = i 1 → v i = window (column v₀ c) w (i 0).val

theorem windowsT_one (v : S64x1024.Idx → EReal) : WindowsT v 1 v := fun i c hc => by
  subst hc
  exact ((window_one _ _).trans (column_self v i)).symm

/-- The pattern of one is one. -/
theorem one_eq : (Scalar.ofBits .f32 0x3F800000#32 : Ideal .f32) = (1 : EReal) := Ideal.ofBits_one_f32

theorem windowsT_step (v₀ v : S64x1024.Idx → EReal) (w l : ℕ) (hs : S64x1024.Slices ![0, 0] (Tall l))
    (hc : Shape.Concatenates [Tall w, Tall l] S64x1024 0) (h : WindowsT v₀ w v) :
    WindowsT v₀ (2 * w) (mulf (F := Ideal) (φ := .f32) v (concatenate S64x1024 0
      [⟨Tall w, broadcast (Tall w) (Scalar.ofBits .f32 0x3F800000#32 : Ideal .f32)⟩, ⟨Tall l, extractStridedSlice (Tall l) ![0, 0] v hs⟩] hc)) := fun i c hcol => by
  rw [window_double]
  refine (congrArg (fun y : EReal => v i * y) ((shift_apply w l _ v hs hc i).trans (by rw [one_eq]))).trans ?_
  by_cases hw : w ≤ (i 0).val
  · simp only [if_pos hw]; rw [h i c hcol, h (upT w i) c hcol]; rfl
  · simp only [if_neg hw]; rw [mul_one, h i c hcol]

/-- The blocks' last rows as a matrix. -/
theorem pay28_apply (v : Vec Ideal S64x1x1024 .f32) (i : S64x1024.Idx) :
    k0_pay28 v i = v (fun a => match a with | 0 => i 0 | 1 => (0 : Fin 1) | 2 => i 1) := by
  unfold k0_pay28
  refine shapeCast_apply _ _ i _ ?_
  rw [Shape.rowMajor_val_three, Shape.rowMajor_val_two]
  show ((i 0).val * 1 + 0) * 1024 + (i 1).val = (i 0).val * 1024 + (i 1).val
  omega

/-- The scan over the blocks: every entry is the product of the entries above it. -/
theorem blockScan_prod (v : Vec Ideal S64x1x1024 .f32) (i : S64x1024.Idx) (c : Fin 1024) (hc : c = i 1) :
    blockScan v i = ∏ b ∈ Finset.range (i 0).val, column (n := 64) (k0_pay28 v) c b := by
  unfold blockScan
  have h4 := windowsT_step _ _ 4 60 slices_S64x1024_o0_0_S60x1024 concatenates_S4x1024_S60x1024_S64x1024_d0
    (windowsT_step _ _ 2 62 slices_S64x1024_o0_0_S62x1024 concatenates_S2x1024_S62x1024_S64x1024_d0
    (windowsT_step _ _ 1 63 slices_S64x1024_o0_0_S63x1024 concatenates_S1x1024_S63x1024_S64x1024_d0 (windowsT_one (k0_pay28 v))))
  have h32 := windowsT_step _ _ 32 32 slices_S64x1024_o0_0_S32x1024 concatenates_S32x1024_S32x1024_S64x1024_d0
    (windowsT_step _ _ 16 48 slices_S64x1024_o0_0_S48x1024 concatenates_S16x1024_S48x1024_S64x1024_d0
    (windowsT_step _ _ 8 56 slices_S64x1024_o0_0_S56x1024 concatenates_S8x1024_S56x1024_S64x1024_d0 h4))
  refine (shift_apply 1 63 _ _ slices_S64x1024_o0_0_S63x1024 concatenates_S1x1024_S63x1024_S64x1024_d0 i).trans ?_
  have h0 : (i 0).val < 64 := (i 0).isLt
  by_cases h : 1 ≤ (i 0).val
  · rw [if_pos h]
    refine (h32 (upT 1 i) c hc).trans ((window_full _ 64 _ (show (i 0).val - 1 < 64 by omega)).trans ?_)
    show ∏ b ∈ Finset.range ((i 0).val - 1 + 1), _ = _
    rw [Nat.sub_add_cancel h]
  · rw [if_neg h, one_eq, show (i 0).val = 0 by omega]
    rfl

/-! ## The total -/

/-- A column's product is the product of the column of the upper half times the lower half. -/
theorem fold_prod (n k : ℕ) (hk : n = k + k) (v : (Tall n).Idx → EReal) (h0 : (Tall n).Slices ![0, 0] (Tall k)) (h1 : (Tall n).Slices ![k, 0] (Tall k)) (c : Fin 1024) :
    ∏ r ∈ Finset.range k, column (mulf (F := Ideal) (φ := .f32) (extractStridedSlice (Tall k) ![0, 0] v h0) (extractStridedSlice (Tall k) ![k, 0] v h1)) c r
      = ∏ r ∈ Finset.range n, column v c r := by
  rw [show Finset.range n = Finset.range (k + k) by rw [hk], Finset.prod_range_add, ← Finset.prod_mul_distrib]
  refine Finset.prod_congr rfl fun r hr => ?_
  have hr := Finset.mem_range.mp hr
  unfold column
  rw [dif_pos hr, dif_pos (by omega : r < n), dif_pos (by omega : k + r < n)]
  refine congrArg₂ (fun a b : EReal => a * b) (congrArg v (funext fun a => Fin.ext ?_)) (congrArg v (funext fun a => Fin.ext ?_))
  · match a with
    | 0 => show 0 + r = r; omega
    | 1 => show 0 + c.val = c.val; omega
  · match a with
    | 0 => rfl
    | 1 => show 0 + c.val = c.val; omega

/-- One row through a reshape to a vector. -/
theorem cast_row (x : S1x1024.Idx → EReal) (h : S1x1024.ShapeCasts S1024) (i : S1024.Idx) : shapeCast S1024 x h i = x (atT (n := 1) 0 (i 0)) := by
  refine shapeCast_apply _ _ i _ ?_
  rw [Shape.rowMajor_val_two, Shape.rowMajor_val_one]
  show 0 * 1024 + (i 0).val = (i 0).val
  omega

/-- A vector through a reshape to one row. -/
theorem cast_vec (x : S1024.Idx → EReal) (h : S1024.ShapeCasts S1x1024) (i : S1x1024.Idx) :
    shapeCast S1x1024 x h i = x (fun a => match a with | 0 => i 1) := by
  refine shapeCast_apply _ _ i _ ?_
  rw [Shape.rowMajor_val_two, Shape.rowMajor_val_one]
  have h0 : (i 0).val < 1 := (i 0).isLt
  show (i 1).val = (i 0).val * 1024 + (i 1).val
  omega

/-- The total is the product of the blocks' last rows. -/
theorem pay29_prod (v : Vec Ideal S64x1x1024 .f32) (i : S1x1024.Idx) (c : Fin 1024) (hc : c = i 1) :
    k0_pay29 v i = ∏ b ∈ Finset.range 64, column (n := 64) (k0_pay28 v) c b := by
  rw [← fold_prod 64 32 rfl (k0_pay28 v) slices_S64x1024_o0_0_S32x1024 slices_S64x1024_o32_0_S32x1024,
    ← fold_prod 32 16 rfl _ slices_S32x1024_o0_0_S16x1024 slices_S32x1024_o16_0_S16x1024,
    ← fold_prod 16 8 rfl _ slices_S16x1024_o0_0_S8x1024 slices_S16x1024_o8_0_S8x1024,
    ← fold_prod 8 4 rfl _ slices_S8x1024_o0_0_S4x1024 slices_S8x1024_o4_0_S4x1024,
    ← fold_prod 4 2 rfl _ slices_S4x1024_o0_0_S2x1024 slices_S4x1024_o2_0_S2x1024,
    ← fold_prod 2 1 rfl _ slices_S2x1024_o0_0_S1x1024 slices_S2x1024_o1_0_S1x1024,
    Finset.prod_range_one]
  refine (cast_vec _ _ i).trans ((cast_row _ _ _).trans ?_)
  subst hc; rfl

/-! ## The factors -/

/-- Row `k` of the gathered totals, as a vector. -/
theorem gathered_row (k : ℕ) (hk : k < 4) (g : S4x1024.Idx → EReal) (hs : S4x1024.Slices ![k, 0] S1x1024) (h : S1x1024.ShapeCasts S1024) (i : S1024.Idx) :
    shapeCast S1024 (extractStridedSlice S1x1024 ![k, 0] g hs) h i = g (atT (n := 4) ⟨k, hk⟩ (i 0)) := by
  refine (cast_row _ _ i).trans (congrArg g (funext fun a => Fin.ext ?_))
  match a with
  | 0 => rfl
  | 1 => show 0 + (i 0).val = (i 0).val; omega

/-- A choice between two vectors, at an index. -/
theorem select_apply (b : BitVec 1) (x y : S1024.Idx → EReal) (i : S1024.Idx) : Scalar.select b x y i = Scalar.select b (x i) (y i) := by
  unfold Scalar.select; split <;> rfl

/-- A block's factor: its scan times the totals kept by the comparisons. -/
theorem pay33_apply (w : BitVec 32) (p : FVec Ideal S64x1024 .f32) (g : S4x1024.Idx → EReal) (i : S64x1024.Idx) :
    k0_pay33 w p g i = p i * ((1 * Scalar.select (Scalar.cmpi .sge w 1#32) (g (atT (n := 4) 1 (i 1))) 1)
      * Scalar.select (Scalar.cmpi .sge w 2#32) (g (atT (n := 4) 2 (i 1))) 1 * Scalar.select (Scalar.cmpi .sge w 3#32) (g (atT (n := 4) 3 (i 1))) 1) := by
  unfold k0_pay33
  refine congrArg (fun y : EReal => p i * y) ((broadcastTo_apply _ _ i (atT (n := 1) 0 (i 1)) fun a => ?_).trans ((cast_vec _ _ _).trans ?_))
  · match a with
    | 0 => rfl
    | 1 => rfl
  · refine congrArg₂ (fun a b : EReal => a * b) (congrArg₂ (fun a b : EReal => a * b) (congrArg₂ (fun a b : EReal => a * b) one_eq ?_) ?_) ?_
    all_goals refine (select_apply _ _ _ _).trans (congrArg₂ _ (gathered_row _ _ g _ _ _) one_eq)

end Cert.Cumprod

end
-- ==== Proof.Deal.lean ====
/-
What a launch deals to the devices: every cell's invariant, the tokens of the duties each device pays, and the credits it
waits with.
-/
module

public import proofs.«01_k».proof.Proof.Body
public import Idealize.ShloMosaic.Harness.Basic

@[expose] public section

set_option maxRecDepth 16384

noncomputable section

namespace Cert.Cumprod

open Cert.KernelIdeal Cert.KernelIdeal.Gen
open Idealize.ShloMosaic Idealize.ShloMosaic.TcCoe
open Idealize.SL Idealize.SL.Sem
open Idealize.SL.BI (sProp Storable bigSep)
open scoped Idealize.SL.BI
open Idealize.SL.BI.BIBase Idealize.SL.BI.Laws Idealize.SL.ProofMode
open Idealize.SL.RA
open Idealize.ShloMosaic.Rounds

variable {F : FTy → Type} [FloatOps F]

local notation "𝕄" => MT nD τ sig Unit (Elt F) ℕ UU ℕ

/-! ## The duties' tokens -/

theorem disjoint_cells : Disjoint (barCells : Finset (GSem nD τ sig)) scCells := by
  rw [Finset.disjoint_left]
  intro g h₁ h₂
  obtain ⟨c, -, rfl⟩ := Finset.mem_map.mp h₁
  obtain ⟨ck, -, h⟩ := Finset.mem_map.mp h₂
  exact xsem_ne_bar ck.2 (congrArg Prod.snd h)

/-- The duties of a device's own cells, four kinds of three: the semaphore, and the duty's name. -/
def dutyOf : Fin 4 × Fin 3 → SemLoc sig × Fin 3
  | (0, j) => (.reg barS, j.rev)
  | (1, j) => (.reg ackS, j.rev)
  | (2, j) => (.dma (sendS j), 0)
  | (3, j) => (.dma (recvS j), 0)
theorem dutyOf_inj : Function.Injective dutyOf := by decide

def tokEmb : Dev nD × (Fin 4 × Fin 3) ↪ GSem nD τ sig × ℕ × Fin 3 :=
  ⟨fun x => (((x.1 : Thread nD τ), (dutyOf x.2).1), 0, (dutyOf x.2).2), fun _ _ h =>
    Prod.ext (congrArg (fun t : GSem nD τ sig × ℕ × Fin 3 => t.1.1.1) h)
      (dutyOf_inj (Prod.ext (congrArg (fun t : GSem nD τ sig × ℕ × Fin 3 => t.1.2) h) (congrArg (fun t : GSem nD τ sig × ℕ × Fin 3 => t.2.2) h)))⟩
abbrev allToks : Finset (GSem nD τ sig × ℕ × Fin 3) := Finset.univ.map tokEmb

/-- The tokens of the duties of a device's own cells. -/
def ownToks (c : Dev nD) : sProp 𝕄 :=
  iprop((three fun j => dutyTok ER (barCell c) 0 j.rev) ∗ (three fun j => dutyTok ER (ackCell c) 0 j.rev)
    ∗ (three fun j => dutyTok ER (sendCell c j) 0 0) ∗ (three fun j => dutyTok ER (recvCell c j) 0 0))

theorem toks_eq : bigSep allToks (fun x => (dutyTok ER x.1 x.2.1 x.2.2 : sProp 𝕄)) = bigSep Finset.univ fun c : Dev nD => ownToks c := by
  rw [BI.bigSep_map, BI.bigSep_univ_prod]
  refine BI.bigSep_congr fun c _ => ?_
  rw [BI.bigSep_univ_prod, bigSep_four]
  simp only [bigSep_three]
  rfl

/-- Each of three families, handed round the ring by its own distance. -/
theorem three_around (Φ : Fin 3 → Dev nD → sProp 𝕄) :
    (bigSep Finset.univ fun c : Dev nD => three fun j => Φ j c) = bigSep Finset.univ fun c : Dev nD => three fun j => Φ j (pr j c) := by
  unfold three
  rw [BI.bigSep_sep', BI.bigSep_sep', BI.bigSep_sep', BI.bigSep_sep', BI.bigSep_univ_equiv (prE 0) (Φ 0), BI.bigSep_univ_equiv (prE 1) (Φ 1),
    BI.bigSep_univ_equiv (prE 2) (Φ 2)]
  rfl

/-- Every token reaches the device that pays the duty. -/
theorem toks_around : (bigSep Finset.univ fun c : Dev nD => (ownToks c : sProp 𝕄)) = bigSep Finset.univ fun c : Dev nD => tokens c := by
  have four_of (A A' B B' C C' D D' : Dev nD → sProp 𝕄) (hA : bigSep Finset.univ A = bigSep Finset.univ A') (hB : bigSep Finset.univ B = bigSep Finset.univ B')
      (hC : bigSep Finset.univ C = bigSep Finset.univ C') (hD : bigSep Finset.univ D = bigSep Finset.univ D') :
      (bigSep Finset.univ fun c => iprop(A c ∗ B c ∗ C c ∗ D c)) = bigSep Finset.univ fun c => iprop(A' c ∗ B' c ∗ C' c ∗ D' c) := by
    simp only [BI.bigSep_sep', hA, hB, hC, hD]
  exact four_of _ _ _ _ _ _ _ _ (three_around fun j c => dutyTok ER (barCell c) 0 j.rev) (three_around fun j c => dutyTok ER (ackCell c) 0 j.rev)
    rfl (three_around fun j c => dutyTok ER (recvCell c j) 0 0)

/-! ## The credits -/

/-- Summed over the devices, a payment of each to its `j`-th peer comes to one payment per cell. -/
theorem sum_hit (g : Dev nD → GSem nD τ sig) (hg : Function.Injective g) (j : Fin 3) (n : ℕ) (c : Dev nD) :
    ∑ d, tallyAt (Ix := Unit) (g (pr j d)) () n (g c) () = n := by
  rw [show ∑ d, tallyAt (Ix := Unit) (g (pr j d)) () n (g c) () = ∑ d, tallyAt (Ix := Unit) (g d) () n (g c) () from
      Equiv.sum_comp (prE j) fun d => tallyAt (Ix := Unit) (g d) () n (g c) (),
    Finset.sum_congr rfl fun d _ => (by
      rw [tallyAt_apply]
      by_cases h : c = d
      · rw [if_pos ⟨by rw [h], rfl⟩, if_pos h]
      · rw [if_neg fun e => h (hg e.1), if_neg h] : tallyAt (Ix := Unit) (g d) () n (g c) () = if c = d then n else 0)]
  rw [Finset.sum_ite_eq, if_pos (Finset.mem_univ _)]

theorem sum_miss (g : Dev nD → GSem nD τ sig) (g' : GSem nD τ sig) (h : ∀ d, g'.2 ≠ (g d).2) (j : Fin 3) (n : ℕ) :
    ∑ d, tallyAt (Ix := Unit) (g (pr j d)) () n g' () = 0 :=
  Finset.sum_eq_zero fun d _ => by rw [tallyAt_apply, if_neg fun e => h _ (congrArg Prod.snd e.1)]

theorem sum_owed (g : GSem nD τ sig) : ∑ d, O₀ d g () =
    ∑ d, tallyAt (Ix := Unit) (ackCell (pr 2 d)) () 1 g () + ∑ d, tallyAt (Ix := Unit) (ackCell (pr 1 d)) () 1 g ()
      + ∑ d, tallyAt (Ix := Unit) (ackCell (pr 0 d)) () 1 g () + ∑ d, tallyAt (Ix := Unit) (recvCell (pr 2 d) 2) () N g ()
      + ∑ d, tallyAt (Ix := Unit) (recvCell (pr 1 d) 1) () N g () + ∑ d, tallyAt (Ix := Unit) (recvCell (pr 0 d) 0) () N g ()
      + ∑ d, tallyAt (Ix := Unit) (barCell (pr 2 d)) () 1 g () + ∑ d, tallyAt (Ix := Unit) (barCell (pr 1 d)) () 1 g ()
      + ∑ d, tallyAt (Ix := Unit) (barCell (pr 0 d)) () 1 g () := by
  simp only [← Finset.sum_add_distrib]
  rfl

theorem cell_inj (sm : SemLoc sig) : Function.Injective fun c : Dev nD => (((c : Thread nD τ), sm) : GSem nD τ sig) :=
  fun _ _ h => congrArg (fun g : GSem nD τ sig => g.1.1) h

theorem recv_ne {i j : Fin 3} (h : i ≠ j) : (SemLoc.dma (recvS j) : SemLoc sig) ≠ .dma (recvS i) := by revert i j; decide

theorem owed_bar (c : Dev nD) : ∑ d, O₀ d (barCell c) () = 3 := by
  have hit := fun j => sum_hit barCell (cell_inj _) j 1 c
  have ack := fun j => sum_miss ackCell (barCell c) (fun _ => (by decide : (SemLoc.reg barS : SemLoc sig) ≠ .reg ackS)) j 1
  have recv := fun i j => sum_miss (fun d => recvCell d i) (barCell c) (fun _ => by simp) j N
  rw [sum_owed, hit, hit, hit, ack, ack, ack, recv, recv, recv]

theorem owed_ack (c : Dev nD) : ∑ d, O₀ d (ackCell c) () = 3 := by
  have hit := fun j => sum_hit ackCell (cell_inj _) j 1 c
  have bar := fun j => sum_miss barCell (ackCell c) (fun _ => (by decide : (SemLoc.reg ackS : SemLoc sig) ≠ .reg barS)) j 1
  have recv := fun i j => sum_miss (fun d => recvCell d i) (ackCell c) (fun _ => by simp) j N
  rw [sum_owed, hit, hit, hit, bar, bar, bar, recv, recv, recv]

theorem owed_recv (c : Dev nD) (j : Fin 3) : ∑ d, O₀ d (recvCell c j) () = N := by
  have hit := fun i => sum_hit (fun d => recvCell d j) (cell_inj _) i N c
  have miss := fun i (h : i ≠ j) => sum_miss (fun d => recvCell d i) (recvCell c j) (fun _ => recv_ne h) i N
  have bar := fun i => sum_miss barCell (recvCell c j) (fun _ => by simp) i 1
  have ack := fun i => sum_miss ackCell (recvCell c j) (fun _ => by simp) i 1
  rw [sum_owed, ack, ack, ack, bar, bar, bar]
  match j, hit, miss with
  | 0, hit, miss => rw [hit 0, miss 1 (by decide), miss 2 (by decide)]; omega
  | 1, hit, miss => rw [hit 1, miss 0 (by decide), miss 2 (by decide)]; omega
  | 2, hit, miss => rw [hit 2, miss 0 (by decide), miss 1 (by decide)]; omega

theorem launch_at (g : GSem nD τ sig) (n : ℕ) (h : ∑ d, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

/-- The launch's credit holds what each device waits with. -/
theorem creds (c : Dev nD) : (Pipeline.launchCred O₀ c : sProp 𝕄) ⊢ credits c := by
  have h : (Pipeline.launchCred O₀ c : sProp 𝕄) ⊢ bigSep {SemLoc.reg barS, .reg ackS, .dma (recvS 0), .dma (recvS 1), .dma (recvS 2)}
      fun sm : SemLoc sig => cred (tallyOn ((c : Thread nD τ), sm) (launchCredit (Pipeline.owing O₀) 0 ((c : Thread nD τ), sm))) :=
    BI.bigSep_subset (Finset.subset_univ _)
  rw [BI.bigSep_eq_bigSepL_of_eq [SemLoc.reg barS, .reg ackS, .dma (recvS 0), .dma (recvS 1), .dma (recvS 2)] (by decide) (by decide)] at h
  unfold credits three
  beta_reduce
  rw [← launch_at _ _ (owed_bar c), ← launch_at _ _ (owed_ack c), ← launch_at _ _ (owed_recv c 0), ← launch_at _ _ (owed_recv c 1),
    ← launch_at _ _ (owed_recv c 2)]
  exact h

/-! ## The cells' ghost state -/

/-- A resource of the whole mesh, kept on one device. -/
def onDev (c₀ : Dev nD) (P : sProp 𝕄) (c : Dev nD) : sProp 𝕄 := if c = c₀ then P else iprop(emp)
theorem bigSep_onDev (c₀ : Dev nD) (P : sProp 𝕄) : bigSep Finset.univ (onDev c₀ P) = P := by
  rw [BI.bigSep_univ_at _ c₀, BI.bigSep_congr (s := Finset.univ.erase c₀) (Ψ := fun _ => (BI.emp : sProp 𝕄))
      fun c hc => by unfold onDev; rw [if_neg (Finset.ne_of_mem_erase hc)]; rfl, BI.bigSep_emp_const]
  unfold onDev; rw [if_pos rfl]
  exact BI.equiv_iff.mp BI.sep_emp

variable (X : Dev nD → Big F)

/-- What every device may consult: the invariants, and that round 0 of every barrier cell is reached. -/
def records (κ : GSem nD τ sig → ℕ) : sProp 𝕄 := iprop(invs X κ ∗ bigSep barCells fun g => reached ER g 0)

instance records_persistent (κ : GSem nD τ sig → ℕ) : BI.Persistent (records X κ) := by unfold records; infer_instance

theorem reached_at (c : Dev nD) : (bigSep barCells fun g => (reached ER g 0 : sProp 𝕄)) ⊢ reached ER (barCell c) 0 :=
  BI.bigSep_elim (Finset.mem_map_of_mem barEmb (Finset.mem_univ c))

/-- The rights to open a device's scoped cells. -/
def opens (c : Dev nD) : sProp 𝕄 :=
  iprop(openTok ER (ackCell c) ∗ (three fun j => openTok ER (sendCell c j)) ∗ (three fun j => openTok ER (recvCell c j)))

theorem opens_list (c : Dev nD) : bigSep Finset.univ (fun k : Fin 7 => (openTok ER ((c : Thread nD τ), xsem k) : sProp 𝕄)) ⊢ opens c := by
  rw [BI.bigSep_univ_eq_bigSepL [(0 : Fin 7), 1, 2, 3, 4, 5, 6] (by decide) (by decide)]
  unfold opens
  show iprop(openTok ER (ackCell c) ∗ openTok ER (sendCell c 0) ∗ openTok ER (sendCell c 1) ∗ openTok ER (sendCell c 2)
    ∗ openTok ER (recvCell c 0) ∗ openTok ER (recvCell c 1) ∗ openTok ER (recvCell c 2)) ⊢ _
  iintro ⟨Ha, Hs0, Hs1, Hs2, Hv0, Hv1, Hv2⟩
  isplitl [Ha]; · iexact Ha
  isplitl [Hs0 Hs1 Hs2]
  · isplitl [Hs0]; · iexact Hs0
    isplitl [Hs1] <;> iassumption
  isplitl [Hv0]; · iexact Hv0
  isplitl [Hv1] <;> iassumption

/-- A device's share of the ghost state: its barrier's place, its rights to open, the tokens of the duties it pays. -/
def linear (c : Dev nD) : sProp 𝕄 := iprop(atPos ER (barCell c) 0 ∅ 0 ∗ opens c ∗ tokens c)
def ghost (c : Dev nD) : sProp 𝕄 :=
  iprop(∃ κ, invs X κ ∗ (three fun j => reached ER (barCell (pr j c)) 0) ∗ linear c)

theorem ghost_intro (κ : GSem nD τ sig → ℕ) (c : Dev nD) : iprop(records X κ ∗ linear c) ⊢ ghost X c := by
  unfold records ghost
  iintro ⟨⟨#HI, #HR⟩, Hl⟩
  iexists κ
  isplitr; · iexact HI
  isplitr
  · isplitr; · iapply (reached_at (pr 0 c)); iexact HR
    isplitr; · iapply (reached_at (pr 1 c)); iexact HR
    iapply (reached_at (pr 2 c)); iexact HR
  iexact Hl

/-- The ghost state is made: every cell's invariant allocated, every device given its share. -/
theorem deal : iprop((bigSep Finset.univ fun c : Dev nD => semVal (barCell c) 0) ∗ BI.own (ER (launchOf barCells scCells allToks)))
    ⊢ (iprop(|={Set.univ}=> ∃ κ, records X κ ∗ bigSep Finset.univ fun c : Dev nD => linear c) : sProp 𝕄) := by
  have hv : bigSep Finset.univ (fun c : Dev nD => (semVal (barCell c) 0 : sProp 𝕄)) ⊢ bigSep barCells (fun g => (semVal g 0 : sProp 𝕄)) :=
    Entails.of_eq (BI.bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (BI.bigSep_map (s := Finset.univ) barEmb (Φ := fun g : GSem nD τ sig => (atPos ER g 0 ∅ 0 : sProp 𝕄)))
  have hopen : bigSep scCells (fun g => (openTok ER g : sProp 𝕄)) ⊢ bigSep Finset.univ (fun c : Dev nD => opens c) := by
    rw [BI.bigSep_map, BI.bigSep_univ_prod]
    exact BI.bigSep_mono fun c _ => opens_list c
  iintro ⟨Hv, Hu⟩
  imod (Rounds.fund_launch ER (sched X) disjoint_cells (fun g _ h => h) allToks) $$ [Hv Hu] with ⟨%κ, -, #Hinv, #Hr, Hat, Hopen, Htok⟩
  · isplitl [Hv]
    · iapply hv $$ Hv
    · iexact Hu
  imodintro
  iexists κ
  isplitr
  · unfold records invs
    isplitr; · iexact Hinv
    iexact Hr
  unfold linear
  iapply Smoke.bigSep_pair; isplitl [Hat]; · iapply hat $$ Hat
  iapply Smoke.bigSep_pair; isplitl [Hopen]; · iapply hopen $$ Hopen
  rw [← toks_around, ← toks_eq]
  iexact Htok

/-- A device's scoped cells are opened, their counters being at hand. -/
theorem open_cells (c : Dev nD) : iprop(ghost X c ∗ cellsZero c ∗ levAts L lv)
    ⊢ (iprop(|={Set.univ}=> ((∃ κ, known X κ c) ∗ places c ∗ tokens c)) : sProp 𝕄) := by
  unfold ghost linear opens cellsZero known places
  iintro ⟨⟨%κ, #HI, #HrB, HaB, ⟨Hoa, ⟨Hos0, Hos1, Hos2⟩, ⟨Hov0, Hov1, Hov2⟩⟩, Ht⟩, ⟨Hza, ⟨Hzs0, Hzs1, Hzs2⟩, ⟨Hzv0, Hzv1, Hzv2⟩⟩, #Hlev⟩
  have one (g : GSem nD τ sig) (hg : g ∈ (barCells ∪ scCells : Finset (GSem nD τ sig))) :
      iprop(invs X κ ∗ openTok ER g ∗ semVal g 0) ⊢ (iprop(|={Set.univ}=> (atPos ER g 0 ∅ 0 ∗ reached ER g 0)) : sProp 𝕄) := by
    iintro ⟨#HI, Ho, Hz⟩
    ihave #Hc := (inv_at X κ hg) $$ HI
    iapply (Rounds.cell_open ER (sched X) (g := g) (Set.mem_univ (κ g)))
    isplitr; · iexact Hc
    isplitl [Ho] <;> iassumption
  imod (one _ (ack_mem c)) $$ [Hoa Hza] with ⟨HaA, #HrA⟩
  · isplitr; · iexact HI
    isplitl [Hoa] <;> iassumption
  imod (one _ (send_mem c 0)) $$ [Hos0 Hzs0] with ⟨Has0, #Hrs0⟩
  · isplitr; · iexact HI
    isplitl [Hos0] <;> iassumption
  imod (one _ (send_mem c 1)) $$ [Hos1 Hzs1] with ⟨Has1, #Hrs1⟩
  · isplitr; · iexact HI
    isplitl [Hos1] <;> iassumption
  imod (one _ (send_mem c 2)) $$ [Hos2 Hzs2] with ⟨Has2, #Hrs2⟩
  · isplitr; · iexact HI
    isplitl [Hos2] <;> iassumption
  imod (one _ (recv_mem c 0)) $$ [Hov0 Hzv0] with ⟨Hav0, #Hrv0⟩
  · isplitr; · iexact HI
    isplitl [Hov0] <;> iassumption
  imod (one _ (recv_mem c 1)) $$ [Hov1 Hzv1] with ⟨Hav1, #Hrv1⟩
  · isplitr; · iexact HI
    isplitl [Hov1] <;> iassumption
  imod (one _ (recv_mem c 2)) $$ [Hov2 Hzv2] with ⟨Hav2, #Hrv2⟩
  · isplitr; · iexact HI
    isplitl [Hov2] <;> iassumption
  imodintro
  isplitr
  · iexists κ
    isplitr; · iexact HI
    isplitr; · iexact Hlev
    isplitr; · iexact HrB
    isplitr; · iexact HrA
    isplitr
    · isplitr; · iexact Hrs0
      isplitr; · iexact Hrs1
      iexact Hrs2
    isplitr; · iexact Hrv0
    isplitr; · iexact Hrv1
    iexact Hrv2
  isplitl [HaB HaA Has0 Has1 Has2 Hav0 Hav1 Hav2]
  · isplitl [HaB]; · iexact HaB
    isplitl [HaA]; · iexact HaA
    isplitl [Has0 Has1 Has2]
    · isplitl [Has0]; · iexact Has0
      isplitl [Has1] <;> iassumption
    isplitl [Hav0]; · iexact Hav0
    isplitl [Hav1] <;> iassumption
  iexact Ht

end Cert.Cumprod

end
-- ==== Proof.Launch.lean ====
/-
The whole program's run on the four devices: the reshape, the body, the reshape back.
-/
module

public import proofs.«01_k».proof.Proof.Deal
public import proofs.«01_k».proof.Proof.Gen.KernelIdeal.Frame
public import Idealize.ShloMosaic.Lib.Pipeline.RegionTalk

@[expose] public section

set_option maxRecDepth 16384

noncomputable section

namespace Cert.Cumprod

open Cert.KernelIdeal Cert.KernelIdeal.Gen
open Idealize.ShloMosaic Idealize.ShloMosaic.TcCoe
open Idealize.SL Idealize.SL.Sem
open Idealize.SL.BI (sProp Storable bigSep)
open scoped Idealize.SL.BI
open Idealize.SL.BI.BIBase Idealize.SL.BI.Laws Idealize.SL.ProofMode
open Idealize.SL.RA
open Idealize.ShloMosaic.Rounds
open Idealize.ShloMosaic.Pipeline (Dat Cfg BodyObligation cellOf ucRefs)

variable {F : FTy → Type} [FloatOps F]

local notation "𝕄" => MT nD τ sig Unit (Elt F) ℕ UU ℕ

variable (m : (ℓ : Loc nD τ sig) → Buf (Elt F) ℓ) (ρ : Dev nD → PrngReg)

/-! ## The buffers' contents along the program -/

/-- At the start, after the first reshape, after the body, after the last reshape. -/
abbrev V₀ (c : Dev nD) : Valuation τ sig (Elt F) := fun b => m (c, b)
abbrev V₁ (c : Dev nD) : Valuation τ sig (Elt F) := StableHlo.after hostOps0 (V₀ m c)
/-- The operand every device scans. -/
abbrev operand (c : Dev nD) : Big F := V₁ m c main_v1
abbrev V₂ (c : Dev nD) : Valuation τ sig (Elt F) := Function.update (V₁ m c) (Proc.devRef .tc main_v2) (result (operand m) c)
abbrev V₃ (c : Dev nD) : Valuation τ sig (Elt F) := StableHlo.after hostOps1 (V₂ m c)

abbrev bufs : Finset (DevRef τ sig) := ucRefs τ sig

abbrev pt (c : Dev nD) (b : Ref sig .tc) (f : Buf (Elt F) ((c : Thread nD τ).loc b)) : sProp 𝕄 := ((c : Thread nD τ).loc b) ↦{fullShare} f

theorem bufs_eq (c : Dev nD) (W : Valuation τ sig (Elt F)) : (StableHlo.held (c : Thread nD τ) bufs W : sProp 𝕄)
    = iprop(pt c main_arg0 (W main_arg0) ∗ pt c main_v1 (W main_v1) ∗ pt c main_v2 (W main_v2) ∗ pt c main_v3 (W main_v3)) := by
  unfold StableHlo.held
  rw [BI.bigSep_eq_bigSepL_of_eq [Proc.devRef .tc main_arg0, Proc.devRef .tc main_v1, Proc.devRef .tc main_v2, Proc.devRef .tc main_v3] (by decide) (by decide)]
  rfl

theorem V₂_v2 (c : Dev nD) : V₂ m c main_v2 = result (operand m) c := Function.update_self ..
theorem V₂_ne (c : Dev nD) (b : Ref sig .tc) (h : b ≠ main_v2) : V₂ m c b = V₁ m c b :=
  Function.update_of_ne (StableHlo.devRef_ne_of_ne h) ..

/-- The counter of the barrier is the one not scoped. -/
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- The body's own semaphores: the acknowledgement's and the fourteen of the copies. -/
def osem (k : Fin 15) : SemLoc sig := if h : k.val = 0 then .reg ackS else .dma ⟨k.val - 1, by have := k.isLt; show _ < 14; omega⟩
theorem osem_facts : Pipeline.OwnSemFacts cfg0.spec osem := by decide

def ownZero (c : Dev nD) : sProp 𝕄 := iprop(cellsZero c ∗ inZero c ∗ outZero c)

theorem ownSems_list (c : Dev nD) : (Pipeline.ownSems0 osem c : sProp 𝕄)
    = iprop(semVal (ackCell c) 0 ∗ semVal ((c : Thread nD τ), .dma (inS 0)) 0 ∗ semVal ((c : Thread nD τ), .dma (inS 1)) 0
      ∗ semVal ((c : Thread nD τ), .dma (inS 2)) 0 ∗ semVal ((c : Thread nD τ), .dma (inS 3)) 0
      ∗ semVal ((c : Thread nD τ), .dma (outS 0)) 0 ∗ semVal ((c : Thread nD τ), .dma (outS 1)) 0
      ∗ semVal ((c : Thread nD τ), .dma (outS 2)) 0 ∗ semVal ((c : Thread nD τ), .dma (outS 3)) 0
      ∗ semVal (sendCell c 0) 0 ∗ semVal (sendCell c 1) 0 ∗ semVal (sendCell c 2) 0
      ∗ semVal (recvCell c 0) 0 ∗ semVal (recvCell c 1) 0 ∗ semVal (recvCell c 2) 0) := by
  unfold Pipeline.ownSems0
  rw [BI.bigSep_univ_eq_bigSepL [(0 : Fin 15), 1, 2, 3, 4, 5, 6, 7, 8, 9, 10, 11, 12, 13, 14] (by decide) (by decide)]
  rfl

theorem ownSems_split (c : Dev nD) : (Pipeline.ownSems0 osem c : sProp 𝕄) ⊢ ownZero c := by
  rw [ownSems_list]
  unfold ownZero cellsZero
  iintro ⟨Ha, Hi0, Hi1, Hi2, Hi3, Ho0, Ho1, Ho2, Ho3, Hs0, Hs1, Hs2, Hv0, Hv1, Hv2⟩
  isplitl [Ha Hs0 Hs1 Hs2 Hv0 Hv1 Hv2]
  · isplitl [Ha]; · iexact Ha
    isplitl [Hs0 Hs1 Hs2]
    · isplitl [Hs0]; · iexact Hs0
      isplitl [Hs1] <;> iassumption
    isplitl [Hv0]; · iexact Hv0
    isplitl [Hv1] <;> iassumption
  isplitl [Hi0 Hi1 Hi2 Hi3]
  · isplitl [Hi0]; · iexact Hi0
    isplitl [Hi1]; · iexact Hi1
    isplitl [Hi2] <;> iassumption
  isplitl [Ho0]; · iexact Ho0
  isplitl [Ho1]; · iexact Ho1
  isplitl [Ho2] <;> iassumption

theorem ownSems_join (c : Dev nD) : ownZero c ⊢ (Pipeline.ownSems0 osem c : sProp 𝕄) := by
  rw [ownSems_list]
  unfold ownZero cellsZero
  iintro ⟨⟨Ha, ⟨Hs0, Hs1, Hs2⟩, ⟨Hv0, Hv1, Hv2⟩⟩, ⟨Hi0, Hi1, Hi2, Hi3⟩, ⟨Ho0, Ho1, Ho2, Ho3⟩⟩
  isplitl [Ha]; · iexact Ha
  isplitl [Hi0]; · iexact Hi0
  isplitl [Hi1]; · iexact Hi1
  isplitl [Hi2]; · iexact Hi2
  isplitl [Hi3]; · iexact Hi3
  isplitl [Ho0]; · iexact Ho0
  isplitl [Ho1]; · iexact Ho1
  isplitl [Ho2]; · iexact Ho2
  isplitl [Ho3]; · iexact Ho3
  isplitl [Hs0]; · iexact Hs0
  isplitl [Hs1]; · iexact Hs1
  isplitl [Hs2]; · iexact Hs2
  isplitl [Hv0]; · iexact Hv0
  isplitl [Hv1] <;> iassumption

/-! ## The region's data -/

/-- The scratch buffers, at some contents. -/
def scratch (c : Dev nD) : sProp 𝕄 := iprop((∃ f, bPts c Finset.univ f) ∗ ∃ f, gPts c Finset.univ fullShare f)
/-- The buffers the body does not touch. -/
def kept (c : Dev nD) : sProp 𝕄 := iprop(pt c main_arg0 (V₁ m c main_arg0) ∗ pt c main_v3 (V₁ m c main_v3))

def Tk (c : Dev nD) : sProp 𝕄 := iprop(ghost (operand m) c ∗ credits c)
def Xk (c : Dev nD) : sProp 𝕄 := iprop(((∃ κ, known (operand m) κ c) ∗ places c ∗ tokens c) ∗ credits c ∗ inZero c ∗ outZero c)
def Yk (c : Dev nD) : sProp 𝕄 := semVal (barCell c) 0

/-- Inside the region, before the body and after it. -/
def before (c : Dev nD) : sProp 𝕄 :=
  iprop(Xk m c ∗ kept m c ∗ xPts c Finset.univ (operand m c) ∗ yPts c Finset.univ (V₁ m c main_v2) ∗ scratch c ∗ ∃ r, prngReg c r)
def done (c : Dev nD) : sProp 𝕄 :=
  iprop(Yk c ∗ ownZero c ∗ kept m c ∗ xPts c Finset.univ (operand m c) ∗ yPts c Finset.univ (result (operand m) c) ∗ scratch c ∗ ∃ r, prngReg c r)

def dat (c : Dev nD) : Dat τ (Elt F) Unit ℕ UU ℕ cfg0 c where
  A w := w.elim0
  after w := w.elim0
  Φ t := if t.val = 0 then before m c else done m c
  q w := w.elim0
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem bigSep_none {M : Type} [URA M] (Φ : Fin 0 → sProp M) : bigSep Finset.univ Φ = (BI.emp : sProp M) :=
  BI.bigSep_univ_eq_bigSepL [] (by decide) (by decide) Φ

theorem owed_first (c : Dev nD) : (dat m c).owed t0_0.castSucc = O₀ c := by
  show (if (t0_0.castSucc : Fin (grid0.N + 1)).val = 0 then O₀ c else 0) = O₀ c; exact if_pos rfl
theorem owed_zero (c : Dev nD) : (pdats m 0 c).owed 0 = O₀ c := by
  show (if (0 : Fin (grid0.N + 1)).val = 0 then O₀ c else 0) = O₀ c; exact if_pos rfl
theorem owed_last (c : Dev nD) : (pdats m 0 c).owed (Fin.last _) = 0 := by
  show (if (Fin.last grid0.N).val = 0 then O₀ c else 0) = 0
  rw [Fin.val_last, if_neg (by rw [N_0]; decide)]
theorem Φ_zero (c : Dev nD) : (pdats m 0 c).Φ 0 = before m c := by
  show (if (0 : Fin (grid0.N + 1)).val = 0 then before m c else done m c) = _; exact if_pos rfl
theorem Φ_last (c : Dev nD) : (pdats m 0 c).Φ (Fin.last _) = done m c := by
  show (if (Fin.last grid0.N).val = 0 then before m c else done m c) = _
  rw [Fin.val_last, if_neg (by rw [N_0]; decide)]

theorem owesAt_intro (c : Dev nD) (t : Fin (cfg0.N + 1)) (O : CellTallies nD τ sig Unit) (h : (dat m c).owed t = O) (W : Waits sig Unit) :
    (owes (c : Thread nD τ) O W : sProp 𝕄) ⊢ (dat m c).owesAt () t := by
  unfold Dat.owesAt Pipeline.owesWithin Dat.bound; rw [h]
  iintro HO; iexists W; isplitr; · ipureintro; exact fun _ _ => Or.inl trivial
  iexact HO
theorem owesAt_elim (c : Dev nD) (t : Fin (cfg0.N + 1)) (O : CellTallies nD τ sig Unit) (h : (dat m c).owed t = O) :
    ((dat m c).owesAt () t : sProp 𝕄) ⊢ iprop(∃ W, owes (c : Thread nD τ) O W) := by
  unfold Dat.owesAt Pipeline.owesWithin; rw [h]
  iintro ⟨%W, -, HO⟩; iexists W; iexact HO

/-- The region's one point runs the body. -/
theorem body_ok (c : Dev nD) : BodyObligation (dat m c) defs₀ 𝒱₀ () Set.univ := fun t => by
  obtain rfl := fin_N0 t
  rw [bigSep_none, bigSep_none]
  rw [show (dat m c).Φ t0_0.castSucc = before m c from rfl, show (dat m c).Φ t0_0.succ = done m c from rfl]
  show _ ⊢ wp frame (wpE (defs₀ (F := F)) 𝒱₀ c none) Set.univ (bodyAt0 t0_0) _
  rw [body_eq]
  unfold before Xk scratch
  iintro ⟨⟨⟨⟨⟨%κ, #Hkn⟩, Hpl, Htk⟩, Hcr, Hin, Hout⟩, Hkp, Hx, Hy, ⟨Hb, Hg⟩, Hreg⟩, HO, -⟩
  ihave HO' := (owesAt_elim m c _ (O₀ c) (owed_first m c)) $$ HO
  icases HO' with ⟨%W, HO⟩
  iapply (body_run (operand m) κ c W _)
  isplitl [Hpl Htk Hcr Hin Hout Hx Hy Hb Hg HO]
  · unfold bodyPre
    isplitr; · iexact Hkn
    isplitl [Hpl]; · iexact Hpl
    isplitl [Htk]; · iexact Htk
    isplitl [Hcr]; · iexact Hcr
    isplitl [Hin]; · iexact Hin
    isplitl [Hout]; · iexact Hout
    isplitl [Hx]; · iexact Hx
    isplitl [Hy]; · iexists _; iexact Hy
    isplitl [Hb]; · iexact Hb
    isplitl [Hg]; · iexact Hg
    iexact HO
  unfold bodyPost done ownZero scratch Yk
  iintro ⟨HzB, Hz, Hin, Hout, Hx, Hy, Hb, Hg, ⟨%W', HO⟩⟩
  isplitr [HO]
  · isplitl [HzB]; · iexact HzB
    isplitl [Hz Hin Hout]
    · isplitl [Hz]; · iexact Hz
      isplitl [Hin] <;> iassumption
    isplitl [Hkp]; · iexact Hkp
    isplitl [Hx]; · iexact Hx
    isplitl [Hy]; · iexact Hy
    isplitl [Hb Hg]; · isplitl [Hb] <;> iassumption
    iexact Hreg
  isplitl [HO]; · iapply (owesAt_intro m c t0_0.succ 0 (owed_last m c) W'); iexact HO
  iempintro

/-! ## The segments -/

theorem hopen (c : Dev nD) : iprop(Tk m c ∗ Pipeline.ownSems0 osem c ∗ levAts L lv) ⊢ (|={Set.univ}=> Xk m c : sProp 𝕄) := by
  unfold Tk Xk
  iintro ⟨⟨Hg, Hcr⟩, Hos, #Hlev⟩
  ihave Hz := (ownSems_split c) $$ Hos
  unfold ownZero
  icases Hz with ⟨Hz, Hin, Hout⟩
  imod (open_cells (operand m) c) $$ [Hg Hz] with H
  · isplitl [Hg]; · iexact Hg
    isplitl [Hz]; · iexact Hz
    iexact Hlev
  imodintro
  isplitl [H]; · iexact H
  isplitl [Hcr]; · iexact Hcr
  isplitl [Hin] <;> iassumption

theorem scopedRest_eq (c : Dev nD) :
    (Pipeline.scopedRest (Ix := Unit) (Name := ℕ) (U := UU) (Lvl := ℕ) (Val := Elt F) (Pipeline.pin (pcfgs (F := F)) adm 0).spec c : sProp 𝕄) = scratch c :=
  scopedRest0_eq c

theorem hin (c : Dev nD) : iprop(Pipeline.scopedRest (Pipeline.pin (pcfgs (F := F)) adm 0).spec c ∗ (∃ r, prngReg c r)
      ∗ StableHlo.held (c.tc : Thread nD τ) bufs (V₁ m c) ∗ Xk m c) ⊢ (pdats m 0 c).Φ 0 := by
  rw [Φ_zero, scopedRest_eq, bufs_eq]
  unfold before kept
  iintro ⟨Hs, Hp, ⟨Ha, Hx, Hy, H3⟩, HX⟩
  isplitl [HX]; · iexact HX
  isplitl [Ha H3]; · isplitl [Ha] <;> iassumption
  isplitl [Hx]; · iexact Hx
  isplitl [Hy]; · iexact Hy
  isplitl [Hs] <;> iassumption

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) bufs (V₂ m c)
        ∗ Pipeline.ownSems0 osem c ∗ Yk c) := by
  rw [Φ_last, scopedRest_eq, bufs_eq, V₂_v2, V₂_ne m c main_arg0 (by decide), V₂_ne m c main_v1 (by decide), V₂_ne m c main_v3 (by decide)]
  unfold done kept
  iintro ⟨HB, Hz, ⟨Ha, H3⟩, Hx, Hy, Hs, Hp⟩
  isplitl [Hs]; · iexact Hs
  isplitl [Hp]; · iexact Hp
  isplitl [Ha Hx Hy H3]
  · isplitl [Ha]; · iexact Ha
    isplitl [Hx]; · iexact Hx
    isplitl [Hy]; · iexact Hy
    iexact H3
  isplitl [Hz]; · iapply (ownSems_join c); iexact Hz
  iexact HB

theorem O₀_pos {c : Dev nD} {g : GSem nD τ sig} {u : Unit} (h : 0 < O₀ c g u) : g.1.2 = .tc ∧ 0 < lv g u := by
  have bar (d : Dev nD) : (barCell d).1.2 = .tc ∧ 0 < lv (barCell d) u := ⟨rfl, Nat.one_pos⟩
  rcases add_pos_cases h with h | h
  · rcases add_pos_cases h with h | h
    · rcases add_pos_cases h with h | h
      · rcases oR_pos h with ⟨d, rfl⟩ | ⟨d, j, rfl⟩
        · exact ⟨rfl, (by decide : 0 < 3)⟩
        · exact ⟨rfl, by rw [show u = () from rfl, lv_recv]; decide⟩
      · rw [tally_pos h]; exact bar _
    · rw [tally_pos h]; exact bar _
  · rw [tally_pos h]; exact bar _

theorem cut (c : Dev nD) (t : Fin ((Pipeline.pin (pcfgs (F := F)) adm 0).N + 1)) (g : GSem nD τ sig) (i : Unit) (h : 0 < (pdats m 0 c).owed t g i) :
    i ∈ L g ∧ (0 : ℕ) < lv g i := by
  rw [show (pdats m 0 c).owed t = if t.val = 0 then O₀ c else 0 from rfl] at h
  split at h
  · exact ⟨by unfold L; rw [if_pos (O₀_pos h).1]; exact Finset.mem_singleton_self _, (O₀_pos h).2⟩
  · exact absurd h (Nat.lt_irrefl 0)

theorem plaunch : Pipeline.PLaunchFacts (nD := nD) (τ := τ) (pcfgs (F := F)) 0 where
  cellOf_inj a := by rw [Subsingleton.elim a adm]; exact cellOf_inj
  win := winFacts0
  pre := Pipeline.PreFacts.none _
  block_pos w := w.elim0
  arr_whole w := w.elim0
  stage_whole w := w.elim0

local notation "ℍ" => Pipeline.HostSeg (Name := ℕ) (U := UU) (pcfgs (F := F)) defs₀ 𝒱₀ L lv

/-- What rides beside the buffers before the region, and after it. -/
def R (c : Dev nD) : sProp 𝕄 := iprop((Tk m c ∗ ∃ r, prngReg c r) ∗ ∃ W, owes (c : Thread nD τ) (O₀ c) W)
def R' (c : Dev nD) : sProp 𝕄 := iprop(semVal (barCell c) 0 ∗ ∃ W, owes (c : Thread nD τ) (0 : CellTallies nD τ sig Unit) W)

theorem host_sub (ops : List (HloOp τ sig (Elt F))) (h : ops.Forall fun op => op.bufs ⊆ StableHlo.tcRefs τ sig) : ∀ op ∈ ops, op.bufs ⊆ bufs :=
  fun op hop => Pipeline.sub_ucRefs op (List.forall_iff_forall_mem.mp h op hop)

/-- The first reshape. -/
def seg0 : ℍ := Pipeline.HostSeg.ofOps _ _ _ _ _ bufs hostOps0 (host_sub _ hostOps0_sub)
  (fun op h => List.forall_iff_forall_mem.mp hostOps0_fresh op h) (V₀ m) (R m)
/-- The last reshape. -/
def seg1 : ℍ := Pipeline.HostSeg.ofOps _ _ _ _ _ bufs hostOps1 (host_sub _ hostOps1_sub)
  (fun op h => List.forall_iff_forall_mem.mp hostOps1_fresh op h) (V₂ m) R'

set_option backward.isDefEq.respectTransparency.types false in
/-- The region. -/
def reg : Pipeline.RegionSeg (pcfgs (F := F)) adm (pdats m) () defs₀ 𝒱₀ L lv 0 :=
  Pipeline.RegionSeg.ofTalk (pcfgs (F := F)) adm (pdats m) () defs₀ 𝒱₀ L lv 0 osem osem_facts
    bufs bufs (Finset.Subset.refl _) plaunch rfl (fun c => (body_ok m c).loose)
    (fun _ => 0) O₀ (fun c => (owed_zero m c).trans (zero_add _).symm) (owed_last m) (fun _ => rfl) (fun _ w => w.elim0)
    (V₁ m) (V₂ m) (fun _ b hb => absurd hb (by rw [Finset.sdiff_self]; exact Finset.notMem_empty b))
    (Tk m) Yk (Xk m) Yk (hopen m) (hin m) (hout m)
    (fun c => by iintro H; imodintro; iexact H)
    (fun _ => 0)
    ⟨fun _ w => w.elim0, fun _ w => w.elim0, fun c t g i h => cut m c t g i h⟩
    (fun _ => iprop(emp))
    (fun _ w => w.elim0) (fun _ w => w.elim0)

theorem held_arr (c : Dev nD) (W : Valuation τ sig (Elt F)) :
    (StableHlo.held (c.tc : Thread nD τ) (Pipeline.arrRefs (τ := τ) (pcfgs (F := F) 0).spec) W : sProp 𝕄) = BI.emp := by
  have : Pipeline.arrRefs (τ := τ) (pcfgs (F := F) 0).spec = ∅ := by
    unfold Pipeline.arrRefs
    rw [Finset.map_eq_empty, Finset.image_eq_empty, Finset.univ_eq_empty]
  rw [this]
  unfold StableHlo.held
  exact BI.bigSep_empty

theorem reg_pre (c : Dev nD) : iprop(StableHlo.held (c : Thread nD τ) bufs (V₁ m c) ∗ R m c) ⊢ (reg m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) bufs (V₁ m c) ∗ emp) ∗ Tk m c ∗ ∃ Wd, owes (c : Thread nD τ) (0 + O₀ c) Wd)
  rw [held_arr, zero_add]
  unfold R
  iintro ⟨Hh, ⟨HT, Hp⟩, HO⟩
  isplitr; · iempintro
  isplitl [Hp]; · iexact Hp
  isplitl [Hh]
  · isplitl [Hh]; · iexact Hh
    iempintro
  isplitl [HT]; · iexact HT
  iexact HO

theorem reg_post (c : Dev nD) : (reg m).post c ⊢ iprop(StableHlo.held (c : Thread nD τ) bufs (V₂ m c) ∗ R' c) := by
  show iprop(StableHlo.held (c.tc : Thread nD τ) (Pipeline.arrRefs (τ := τ) (pcfgs (F := F) 0).spec) (V₂ m c) ∗ (∃ r, prngReg c r)
    ∗ (StableHlo.held (c.tc : Thread nD τ) bufs (V₂ m c) ∗ emp) ∗ Yk c ∗ ∃ Wd, owes (c : Thread nD τ) (0 : CellTallies nD τ sig Unit) Wd) ⊢ _
  rw [held_arr]
  unfold Yk R'
  iintro ⟨-, -, ⟨Hh, -⟩, Hb, HO⟩
  isplitl [Hh]; · iexact Hh
  isplitl [Hb] <;> iassumption

/-! ## The run -/

/-- The ghost state's launch: the region's part, the exchange's cells, no counter. -/
def u₀ : UU :=
  (initOf (Pipeline.cells (Pipeline.pin (pcfgs (F := F)) adm) cellOf_inj) (Pipeline.launchToks (Pipeline.pin (pcfgs (F := F)) adm) cellOf_inj),
    (launchOf barCells scCells allToks, 1))

def G : Dev nD → sProp 𝕄 := onDev 0 (BI.own (ER (launchOf barCells scCells allToks)))

/-- Before the first reshape, and after the last. -/
abbrev T₀ (c : Dev nD) : sProp 𝕄 := iprop(StableHlo.held (c : Thread nD τ) bufs (V₀ m c) ∗ R m c)
abbrev Tₙ (c : Dev nD) : sProp 𝕄 := iprop(StableHlo.held (c : Thread nD τ) bufs (V₃ m c) ∗ semVal (barCell c) 0)

/-- What of a device's launch holdings is not ghost state. -/
def bundle (c : Dev nD) : sProp 𝕄 :=
  iprop(StableHlo.held (c : Thread nD τ) bufs (V₀ m c) ∗ credits c ∗ owes (c : Thread nD τ) (O₀ c) ∅ ∗ ∃ r, prngReg c r)

theorem T₀_intro (κ : GSem nD τ sig → ℕ) (c : Dev nD) : iprop(records (operand m) κ ∗ (linear c ∗ bundle m c)) ⊢ T₀ m c := by
  unfold bundle T₀ R Tk
  iintro ⟨#HR, Hl, Hh, Hcr, HO, Hp⟩
  isplitl [Hh]; · iexact Hh
  isplitr [HO]
  · isplitr [Hp]
    · isplitl [Hl]
      · iapply (ghost_intro (operand m) κ c)
        isplitr; · iexact HR
        iexact Hl
      iexact Hcr
    iexact Hp
  iexists ∅; iexact HO

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barCell c) 0 ∗ G c)) : sProp 𝕄) := by
    rw [show unscopedBufs c (fun b => m ((c : Thread nD τ).loc b)) = StableHlo.held (c : Thread nD τ) bufs (V₀ m c) from
      Pipeline.unscopedBufs_held c (V₀ m c), unscopedSems0_eq]
    unfold bundle
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from BI.bigSep_mono fun c _ => hcore c) $$ H
  ihave H2 := Smoke.bigSep_unpair $$ H'; icases H2 with ⟨HB, H3⟩
  ihave H4 := Smoke.bigSep_unpair $$ H3; icases H4 with ⟨Hv, HG⟩
  ihave Hu := (show bigSep Finset.univ (G (F := F)) ⊢ BI.own (ER (launchOf barCells scCells allToks)) from
    Entails.of_eq (bigSep_onDev (F := F) 0 (BI.own (ER (launchOf barCells scCells allToks))))) $$ HG
  imod (deal (operand m)) $$ [Hv Hu] with ⟨%κ, #HR, Hl⟩
  · isplitl [Hv] <;> iassumption
  imodintro
  iapply (BI.bigSep_with_persistent (R := records (operand m) κ) (Φ := fun c => iprop(linear c ∗ bundle m c)) fun c _ => T₀_intro m κ c)
  isplitr; · iexact HR
  iapply Smoke.bigSep_pair
  isplitl [Hl] <;> iassumption

theorem unscoped_eq : ∀ sm : SemLoc sig, sm.isScoped .tc = false → sm = .reg barS := by decide

def segs : List (Pipeline.Seg (pcfgs (F := F)) adm (pdats m) () defs₀ 𝒱₀ L lv) := [.host (seg0 m), .region (reg m), .host (seg1 m)]

set_option backward.isDefEq.respectTransparency.types false in
/-- The run: from any memory with every counter at zero, every weakly fair execution of the program on the four devices
    terminates; every final state has the argument's and the result's buffers as the three steps leave them, and every
    counter at zero. -/
theorem run_main : θ_run defs (onTc (τ := τ) (main (F := F))) (⟨m, fun _ => 0, ρ⟩ : MemSt nD τ sig (Elt F))
    (fun r => (∀ c : Dev nD, r.2.mem ((c : Thread nD τ).loc main_arg0) = V₃ m c main_arg0
        ∧ r.2.mem ((c : Thread nD τ).loc main_v3) = V₃ m c main_v3) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (seg0 m) (seg1 m) (reg m) rfl rfl c]; exact .rfl)
    (by simp only [segs, Pipeline.Seg.pipes_host, Pipeline.Seg.pipes_region, Pipeline.Seg.pipes_nil]; decide)
    (O₀ := O₀) (hL := L_of_ne) (G := G) (u₀ := u₀)
    (hu₀ := by
      unfold u₀ G
      iintro Hu
      ihave H := (ownU_pair _ _) $$ Hu
      icases H with ⟨HP, HX⟩
      ihave H' := (own_pair_emb _ _ _) $$ HX
      icases H' with ⟨HX, -⟩
      imodintro
      isplitl [HP]; · iexact HP
      rw [bigSep_onDev]; iexact HX)
    (T₀ := T₀ m) (Tₙ := Tₙ m)
    (hch := by
      refine ⟨fun c => .rfl, fun c => reg_pre m c, fun c => reg_post m c, fun c => ?_⟩
      show iprop(StableHlo.held (c : Thread nD τ) bufs (V₃ m c) ∗ R' c)
        ⊢ iprop(Tₙ m c ∗ ∃ W, owes (c : Thread nD τ) (0 : CellTallies nD τ sig Unit) W)
      unfold R'
      iintro ⟨Hh, Hb0, HO⟩
      isplitr [HO]
      · isplitl [Hh] <;> iassumption
      · iexact HO)
    (hinit := init m ρ)
    (QY := fun c s => (s.mem ((c : Thread nD τ).loc main_arg0) = V₃ m c main_arg0 ∧ s.mem ((c : Thread nD τ).loc main_v3) = V₃ m c main_v3)
      ∧ s.sem (barCell c) = 0)
    (hfin := fun c s' => by
      dsimp only [Tₙ]; rw [bufs_eq]
      iintro ⟨⟨⟨Ha, -, -, H3⟩, Hb0⟩, HSI⟩
      icombine HSI Ha gives %ha
      icombine HSI H3 gives %h3
      icombine HSI Hb0 gives %hb
      imodintro
      isplitr
      · ipureintro
        exact ⟨⟨Buf.eq_of_forall_mem_univ ha, Buf.eq_of_forall_mem_univ h3⟩, by simpa using hb⟩
      iexact HSI)
    (hQ := fun s h hs => ⟨fun c => (h c).1,
      sem_eq_zero hs fun c sm hsm => by
        obtain rfl := unscoped_eq sm hsm
        exact (h c).2⟩)

/-! ## The two reshapes -/

/-- The argument. -/
def arg (c : Dev nD) : S4096x1024.Idx → Elt F .f32 := m ((c : Thread nD τ).loc main_arg0)

/-- The argument as blocks of rows. -/
theorem operand_eq (c : Dev nD) : operand m c = shapeCast S64x64x1024 (arg m c) (by decide) := by
  unfold operand V₁; after_results; rfl

theorem V₃_arg0 (c : Dev nD) : V₃ m c main_arg0 = m ((c : Thread nD τ).loc main_arg0) := by
  unfold V₃; after_results
  rw [V₂_ne m c main_arg0 (by decide)]
  unfold V₁; after_results

theorem V₃_v3 (c : Dev nD) : V₃ m c main_v3 = shapeCast S4096x1024 (result (operand m) c) (by decide) := by
  unfold V₃; after_results
  rw [V₂_v2]; rfl

/-- The run with the argument and the result spelled out: the argument unchanged, the result the reshaped `result`. -/
theorem run_values : θ_run defs (onTc (τ := τ) (main (F := F))) (⟨m, fun _ => 0, ρ⟩ : MemSt nD τ sig (Elt F))
    (fun r => (∀ c : Dev nD, r.2.mem ((c : Thread nD τ).loc main_arg0) = m ((c : Thread nD τ).loc main_arg0)
        ∧ r.2.mem ((c : Thread nD τ).loc main_v3) = shapeCast S4096x1024 (result (operand m) c) (by decide)) ∧ r.2.sem = fun _ => 0) :=
  (θ_run defs _ _).mono (fun r h => ⟨fun c => ⟨(h.1 c).1.trans (V₃_arg0 m c), (h.1 c).2.trans (V₃_v3 m c)⟩, h.2⟩) (run_main m ρ)

end Cert.Cumprod

end
-- ==== Proof.Loop.lean ====
/-
The reference's run: one counted loop over the rows, carrying the running product of the rows read and writing it
over the row of the result.
-/
module

public import proofs.«01_k».proof.Proof.Gen.ReferenceIdeal
public import Idealize.ShloMosaic.Lib.StableHlo.RunLoop
public import Idealize.ShloMosaic.Lib.WordCmp
public import Idealize.ShloMosaic.Lib.Pipeline.Value

@[expose] public section

set_option maxRecDepth 16384

noncomputable section

namespace Cert.Cumprod.Loop

open Cert.ReferenceIdeal Cert.ReferenceIdeal.Gen
open Idealize.ShloMosaic Idealize.ShloMosaic.TcCoe Idealize.ShloMosaic.StableHlo
open Idealize.SL Idealize.SL.Sem
open Idealize.SL.BI (sProp bigSep)
open scoped Idealize.SL.BI
open Idealize.SL.BI.BIBase Idealize.SL.BI.Laws Idealize.SL.ProofMode
open Idealize.SL.RA
open Idealize.ShloMosaic.Pipeline (sub_ucRefs ucRefs)

variable {F : FTy → Type} [FloatOps F]

/-! ## The operations, stretch by stretch -/

/-- Before the loop: ones, zeros, the first row's number, and the copies into the loop's buffers. -/
def preOps : List (HloOp τ sig (Elt F)) :=
  [StableHlo.nullary main_cst (constant S_ .f32 0x3F800000#32),
   StableHlo.unary main_cst main_v0 (broadcastInDim S1024 ![] bcast_S_S1024 : (⟨S_, .f32⟩ : BufTy).Contents (Elt F) → (⟨S1024, .f32⟩ : BufTy).Contents (Elt F)),
   StableHlo.nullary main_cst_0 (constant S_ .f32 0x00000000#32),
   StableHlo.unary main_cst_0 main_v1 (broadcastInDim S16384x1024 ![] bcast_S_S16384x1024 : (⟨S_, .f32⟩ : BufTy).Contents (Elt F) → (⟨S16384x1024, .f32⟩ : BufTy).Contents (Elt F)),
   StableHlo.nullary main_c (constantI S_ 32 0#32),
   StableHlo.unary main_arg0 main_v2_0 id,
   StableHlo.unary main_c main_v2_1 id,
   StableHlo.unary main_v0 main_v2_2 id,
   StableHlo.unary main_v1 main_v2_3 id]

/-- The loop's condition. -/
def condOps : List (HloOp τ sig (Elt F)) :=
  [StableHlo.nullary main_while0c_c_4 (constantI S_ 32 16384#32),
   StableHlo.binary main_v2_1 main_while0c_c_4 main_while0c_v3 (cmpi .slt : (⟨S_, .i32⟩ : BufTy).Contents (Elt F) → (⟨S_, .i32⟩ : BufTy).Contents (Elt F) → (⟨S_, .i1⟩ : BufTy).Contents (Elt F))]

/-- The row read. -/
def readOps : List (HloOp τ sig (Elt F)) :=
  [StableHlo.TRef.nullary main_while0b_call0.c (constantI S_ 32 0#32),
   StableHlo.TRef.unaryIndexed (.of main_v2_0 : TRef sig ⟨S16384x1024, .f32⟩) ![(.of main_v2_1 : TRef sig ⟨S_, .i32⟩), main_while0b_call0.c] main_while0b_call0.v0
     (fun x i => Host.dynamicSlice S1x1024 x (fun k => (i k (Shape.Idx.first h_S_)).toInt) sliceFits_S16384x1024_S1x1024),
   StableHlo.TRef.reshape main_while0b_call0.v0 main_while0b_call0.v1 (rfl : (.f32 : EltTy) = .f32) shapeCasts_S1x1024_S1024]

/-- The product taken on. -/
def mulOps : List (HloOp τ sig (Elt F)) :=
  [StableHlo.binary main_v2_2 main_while0b_v3 main_while0b_v4 (mulf : (⟨S1024, .f32⟩ : BufTy).Contents (Elt F) → (⟨S1024, .f32⟩ : BufTy).Contents (Elt F) → (⟨S1024, .f32⟩ : BufTy).Contents (Elt F))]

/-- The product written over the result's row. -/
def writeOps : List (HloOp τ sig (Elt F)) :=
  [StableHlo.TRef.unary (.of main_while0b_v4 : TRef sig ⟨S1024, .f32⟩) main_while0b_call1.v0 (broadcastInDim S1x1024 ![1] bcast_S1024_S1x1024_1),
   StableHlo.TRef.nullary main_while0b_call1.c (constantI S_ 32 0#32),
   StableHlo.TRef.binaryIndexed (.of main_v2_3 : TRef sig ⟨S16384x1024, .f32⟩) main_while0b_call1.v0 ![(.of main_v2_1 : TRef sig ⟨S_, .i32⟩), main_while0b_call1.c] main_while0b_call1.v1
     (fun x u i => Host.dynamicUpdateSlice x u (fun k => (i k (Shape.Idx.first h_S_)).toInt) updateFits_S16384x1024_S1x1024)]

/-- The row's number stepped, and the new values into the loop's buffers. -/
def stepOps : List (HloOp τ sig (Elt F)) :=
  [StableHlo.nullary main_while0b_c_4 (constantI S_ 32 1#32),
   StableHlo.binary main_v2_1 main_while0b_c_4 main_while0b_v6 (addi : (⟨S_, .i32⟩ : BufTy).Contents (Elt F) → (⟨S_, .i32⟩ : BufTy).Contents (Elt F) → (⟨S_, .i32⟩ : BufTy).Contents (Elt F)),
   StableHlo.unary main_while0b_v6 main_v2_1 id,
   StableHlo.unary main_while0b_v4 main_v2_2 id,
   StableHlo.unary main_while0b_v5 main_v2_3 id]

abbrev preI : List (List (HloOp τ sig (Elt F))) := [preOps]
abbrev bodyI : List (List (HloOp τ sig (Elt F))) := [readOps, mulOps, writeOps, stepOps]
abbrev postI : List (List (HloOp τ sig (Elt F))) := []

theorem main_chain (c : Dev nD) : main (F := F) c = Pipeline.chain ((preI.map fun ops => (seq ops : Prog _ PUnit)) ++ HostLoop.enter 0 :: postI.map fun ops => (seq ops : Prog _ PUnit)) := by
  chain_rfl
theorem body_chain : main_while0_body (F := F) = Pipeline.chain (bodyI.map fun ops => (seq ops : Prog _ PUnit)) := by chain_rfl

theorem pre_plain : Plain (preI (F := F)) :=
  .cons ⟨nullary_bufs_sub .., unary_bufs_sub .., nullary_bufs_sub .., unary_bufs_sub .., nullary_bufs_sub .., unary_bufs_sub .., unary_bufs_sub ..,
    unary_bufs_sub .., unary_bufs_sub ..⟩ .nil
theorem body_plain : Plain (bodyI (F := F)) :=
  .cons ⟨nullary_bufs_sub .., unaryIndexed_bufs_sub .., reshape_bufs_sub ..⟩ <|
  .cons (show (mulOps (F := F)).Forall _ from binary_bufs_sub ..) <|
  .cons ⟨unary_bufs_sub .., nullary_bufs_sub .., binaryIndexed_bufs_sub ..⟩ <|
  .cons ⟨nullary_bufs_sub .., binary_bufs_sub .., unary_bufs_sub .., unary_bufs_sub .., unary_bufs_sub ..⟩ .nil

/-! ## One trip -/

variable (V : Valuation τ sig (Elt F))

abbrev Row (F : FTy → Type) : Type := S1024.Idx → Elt F .f32
abbrev Mat (F : FTy → Type) : Type := S16384x1024.Idx → Elt F .f32

/-- The row a trip reads. -/
def rowRead (x : Mat F) (n : S_.Idx → Elt F .i32) : Row F :=
  shapeCast S1024 (Host.dynamicSlice S1x1024 x (fun k => ((![n, constantI S_ 32 0#32] : Fin 2 → (S_.Idx → Elt F .i32)) k (Shape.Idx.first h_S_)).toInt) sliceFits_S16384x1024_S1x1024)
    shapeCasts_S1x1024_S1024
/-- The result with a trip's row written. -/
def rowWrite (y : Mat F) (r : Row F) (n : S_.Idx → Elt F .i32) : Mat F :=
  Host.dynamicUpdateSlice y (broadcastInDim S1x1024 ![1] bcast_S1024_S1x1024_1 r)
    (fun k => ((![n, constantI S_ 32 0#32] : Fin 2 → (S_.Idx → Elt F .i32)) k (Shape.Idx.first h_S_)).toInt) updateFits_S16384x1024_S1x1024

/-- A trip, from any contents of the loop's buffers. -/
abbrev trip : Valuation τ sig (Elt F) := afterL bodyI (after condOps V)

theorem read_row : after readOps V main_while0b_v3 = rowRead (V main_v2_0) (V main_v2_1) := by
  unfold readOps; after_results_simp_entrywise; all_goals rfl
theorem read_2_0 : after readOps V main_v2_0 = V main_v2_0 := by unfold readOps; after_results
theorem read_2_1 : after readOps V main_v2_1 = V main_v2_1 := by unfold readOps; after_results
theorem read_2_2 : after readOps V main_v2_2 = V main_v2_2 := by unfold readOps; after_results
theorem read_2_3 : after readOps V main_v2_3 = V main_v2_3 := by unfold readOps; after_results
theorem read_arg : after readOps V main_arg0 = V main_arg0 := by unfold readOps; after_results

theorem mul_row : after mulOps V main_while0b_v4 = mulf (V main_v2_2) (V main_while0b_v3) := by unfold mulOps; after_results
theorem mul_ne {r : Ref sig .tc} (h : r ≠ main_while0b_v4) : after mulOps V r = V r := by
  unfold mulOps; rw [after_cons, after_nil, binary_result_ne _ _ _ _ _ _ _ _ h]

theorem write_mat : after writeOps V main_while0b_v5 = rowWrite (V main_v2_3) (V main_while0b_v4) (V main_v2_1) := by
  unfold writeOps; after_results_simp_entrywise; all_goals rfl
theorem write_row : after writeOps V main_while0b_v4 = V main_while0b_v4 := by unfold writeOps; after_results
theorem write_2_0 : after writeOps V main_v2_0 = V main_v2_0 := by unfold writeOps; after_results
theorem write_2_1 : after writeOps V main_v2_1 = V main_v2_1 := by unfold writeOps; after_results
theorem write_arg : after writeOps V main_arg0 = V main_arg0 := by unfold writeOps; after_results

theorem step_2_0 : after stepOps V main_v2_0 = V main_v2_0 := by unfold stepOps; after_results
theorem step_2_1 : after stepOps V main_v2_1 = addi (V main_v2_1) (constantI S_ 32 1#32) := by unfold stepOps; after_results; rfl
theorem step_2_2 : after stepOps V main_v2_2 = V main_while0b_v4 := by unfold stepOps; after_results; rfl
theorem step_2_3 : after stepOps V main_v2_3 = V main_while0b_v5 := by unfold stepOps; after_results; rfl
theorem step_arg : after stepOps V main_arg0 = V main_arg0 := by unfold stepOps; after_results

theorem cond_ne {r : Ref sig .tc} (h : r ≠ main_while0c_c_4) (h' : r ≠ main_while0c_v3) : after condOps V r = V r := by
  unfold condOps; rw [after_cons, after_cons, after_nil, binary_result_ne _ _ _ _ _ _ _ _ h', nullary_result_ne _ _ _ _ h]

theorem trip_x : trip V main_v2_0 = V main_v2_0 := by
  rw [trip, afterL_cons, afterL_cons, afterL_cons, afterL_cons, afterL_nil, step_2_0, write_2_0, mul_ne _ (by decide), read_2_0, cond_ne _ (by decide) (by decide)]
theorem trip_arg : trip V main_arg0 = V main_arg0 := by
  rw [trip, afterL_cons, afterL_cons, afterL_cons, afterL_cons, afterL_nil, step_arg, write_arg, mul_ne _ (by decide), read_arg, cond_ne _ (by decide) (by decide)]
theorem trip_n : trip V main_v2_1 = addi (V main_v2_1) (constantI S_ 32 1#32) := by
  rw [trip, afterL_cons, afterL_cons, afterL_cons, afterL_cons, afterL_nil, step_2_1, write_2_1, mul_ne _ (by decide), read_2_1, cond_ne _ (by decide) (by decide)]
theorem trip_row : trip V main_v2_2 = mulf (V main_v2_2) (rowRead (V main_v2_0) (V main_v2_1)) := by
  rw [trip, afterL_cons, afterL_cons, afterL_cons, afterL_cons, afterL_nil, step_2_2, write_row, mul_row, read_2_2, read_row,
    cond_ne _ (by decide) (by decide), cond_ne _ (by decide) (by decide), cond_ne _ (by decide) (by decide)]
theorem trip_mat : trip V main_v2_3 = rowWrite (V main_v2_3) (mulf (V main_v2_2) (rowRead (V main_v2_0) (V main_v2_1))) (V main_v2_1) := by
  rw [trip, afterL_cons, afterL_cons, afterL_cons, afterL_cons, afterL_nil, step_2_3, write_mat, mul_ne _ (by decide), mul_row, mul_ne _ (by decide), read_2_3, read_2_2,
    read_row, read_2_1,
    cond_ne _ (by decide) (by decide), cond_ne _ (by decide) (by decide), cond_ne _ (by decide) (by decide), cond_ne _ (by decide) (by decide)]

/-! ## The loop's counter -/

variable (m : (ℓ : Loc nD τ sig) → Buf (Elt F) ℓ)

/-- The buffers before the `k`-th test of the condition. -/
abbrev atK (c : Dev nD) (k : ℕ) : Valuation τ sig (Elt F) := atTrip condOps bodyI (entryContents preI m) k c

theorem entry_n (c : Dev nD) : entryContents preI m c main_v2_1 = constantI S_ 32 0#32 := by
  rw [entryContents, afterL_cons, afterL_nil]; unfold preOps; after_results; rfl
theorem entry_x (c : Dev nD) : entryContents preI m c main_v2_0 = m ((c : Thread nD τ).loc main_arg0) := by
  rw [entryContents, afterL_cons, afterL_nil]; unfold preOps; after_results; rfl
theorem entry_arg (c : Dev nD) : entryContents preI m c main_arg0 = m ((c : Thread nD τ).loc main_arg0) := by
  rw [entryContents, afterL_cons, afterL_nil]; unfold preOps; after_results
theorem entry_row (c : Dev nD) : entryContents preI m c main_v2_2 = broadcastInDim S1024 ![] bcast_S_S1024 (constant (F := F) S_ .f32 0x3F800000#32) := by
  rw [entryContents, afterL_cons, afterL_nil]; unfold preOps; after_results; rfl

theorem atK_succ (c : Dev nD) (k : ℕ) : atK m c (k + 1) = trip (atK m c k) := rfl

/-- Before the `k`-th test the counter is `k`. -/
theorem atK_n (c : Dev nD) : ∀ k, atK m c k main_v2_1 = constantI S_ 32 (BitVec.ofNat 32 k)
  | 0 => entry_n m c
  | k + 1 => by
    rw [atK_succ, trip_n, atK_n c k]
    funext i
    show BitVec.ofNat 32 k + 1#32 = BitVec.ofNat 32 (k + 1)
    rw [BitVec.ofNat_add]
theorem atK_x (c : Dev nD) : ∀ k, atK m c k main_v2_0 = m ((c : Thread nD τ).loc main_arg0)
  | 0 => entry_x m c
  | k + 1 => by rw [atK_succ, trip_x, atK_x c k]
theorem atK_arg (c : Dev nD) : ∀ k, atK m c k main_arg0 = m ((c : Thread nD τ).loc main_arg0)
  | 0 => entry_arg m c
  | k + 1 => by rw [atK_succ, trip_arg, atK_arg c k]

theorem test_iff (k : ℕ) (hk : k ≤ 16384) : IntOp.cmpi .slt (BitVec.ofNat 32 k) 16384#32 = 1#1 ↔ k < 16384 := by
  show BitVec.ofBool ((BitVec.ofNat 32 k).slt 16384#32) = 1#1 ↔ _
  rw [BitVec.slt, WordCmp.toInt_ofNat_of_lt (by omega : k < 2 ^ (32 - 1)), show (16384#32 : BitVec 32).toInt = 16384 from by decide]
  by_cases h : k < 16384
  · rw [decide_eq_true (by exact_mod_cast h)]; exact iff_of_true rfl h
  · rw [decide_eq_false (by exact_mod_cast h)]; exact iff_of_false (by decide) h

set_option backward.isDefEq.respectTransparency.types false in
/-- The condition holds exactly while rows are left. -/
theorem cond_spec : CondSpec (pcfgs (F := F)) defs₀ loops (main_while0_cond (F := F)) condOps bodyI (entryContents preI m) 16384 := by
  intro k hk c bd
  have hn := atK_n m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m c k) main_v2_1 HostLoop.idx0) (HloOp.result _ (atK m c k) main_while0c_c_4 HostLoop.idx0) = 1#1) (k < 16384)
    rw [nullary_result_ne _ _ _ _ (by decide), nullary_result, hn]
    exact test_iff k hk
  isplitl [Hb]; · iexact Hb
  unfold condOps; rw [after_cons, after_cons, after_nil]; iexact Hh

/-! ## The value -/

/-- The column of a position. -/
def col2 (i : S16384x1024.Idx) : S1024.Idx := fun a => match a with
  | 0 => i 1

/-- Row `r`, column `j`. -/
def at2 (r : Fin 16384) (j : S1024.Idx) : S16384x1024.Idx := fun a => match a with
  | 0 => r
  | 1 => j 0

/-- The product of the first `k` rows, from the left. -/
def running (x : Mat F) : ℕ → Row F
  | 0 => broadcastInDim S1024 ![] bcast_S_S1024 (constant (F := F) S_ .f32 0x3F800000#32)
  | k + 1 => fun j => if h : k < 16384 then FloatOps.mulf (F := F) (φ := .f32) (running x k j) (x (at2 ⟨k, h⟩ j)) else running x k j

theorem running_succ (x : Mat F) (k : ℕ) (h : k < 16384) (j : S1024.Idx) :
    running x (k + 1) j = FloatOps.mulf (F := F) (φ := .f32) (running x k j) (x (at2 ⟨k, h⟩ j)) := by
  rw [running]; exact dif_pos h

/-- Every row the product of the rows up to it. -/
def prefixes (x : Mat F) : Mat F := fun i => running x ((i 0).val + 1) (col2 i)

theorem start_nat (k : ℕ) (hk : k < 16384) (a : Fin 2) :
    ((![constantI S_ 32 (BitVec.ofNat 32 k), constantI S_ 32 0#32] : Fin 2 → (S_.Idx → Elt F .i32)) a (Shape.Idx.first h_S_)).toInt = ((![k, 0] : Fin 2 → ℕ) a : Int) := by
  match a with
  | 0 => exact WordCmp.toInt_ofNat_of_lt (by omega : k < 2 ^ (32 - 1))
  | 1 => exact (by decide : (0#32 : BitVec 32).toInt = 0)

theorem row_slices (k : ℕ) (hk : k < 16384) : S16384x1024.Slices ![k, 0] S1x1024 :=
  ⟨rfl, fun a => by
    match a with
    | 0 => show k + 1 ≤ 16384; omega
    | 1 => show 0 + 1024 ≤ 1024; omega⟩

theorem rowRead_apply (x : Mat F) (k : ℕ) (hk : k < 16384) (j : S1024.Idx) :
    rowRead x (constantI S_ 32 (BitVec.ofNat 32 k)) j = x (at2 ⟨k, hk⟩ j) := by
  unfold rowRead
  rw [WordCmp.dynamicSlice_eq_extract S1x1024 x _ _ ![k, 0] (row_slices k hk) (start_nat k hk)]
  refine (shapeCast_apply _ _ j (fun a => match a with | 0 => (0 : Fin 1) | 1 => j 0 : S1x1024.Idx) ?_).trans ?_
  · rw [Shape.rowMajor_val_two, Shape.rowMajor_val_one]
    show 0 * 1024 + (j 0).val = (j 0).val
    omega
  · unfold extractStridedSlice
    refine congrArg x (funext fun a => Fin.ext ?_)
    match a with
    | 0 => rfl
    | 1 => show 0 + (j 0).val = (j 0).val; omega

theorem rowWrite_apply (y : Mat F) (r : Row F) (k : ℕ) (hk : k < 16384) (i : S16384x1024.Idx) :
    rowWrite y r (constantI S_ 32 (BitVec.ofNat 32 k)) i = if (i 0).val = k then r (col2 i) else y i := by
  unfold rowWrite
  rw [WordCmp.dynamicUpdateSlice_eq_update y _ _ _ ![k, 0] (row_slices k hk) (start_nat k hk)]
  unfold updateSlice
  have h1 : (i 1).val < 1024 := (i 1).isLt
  by_cases h : (i 0).val = k
  · rw [if_pos h]
    refine (dif_pos (fun a => ?_)).trans ((broadcastInDim_apply _ _ _ _ (col2 i) fun a => ?_))
    · match a with
      | 0 => exact ⟨Nat.le_of_eq h.symm, by show (i 0).val < k + 1; omega⟩
      | 1 => exact ⟨Nat.zero_le _, by show (i 1).val < 0 + 1024; omega⟩
    · match a with
      | 0 => show (i 1).val = (i 1).val - 0; omega
  · rw [if_neg h]
    refine dif_neg fun hin => h ?_
    have h0 : k ≤ (i 0).val ∧ (i 0).val < k + 1 := hin 0
    omega

/-- After `k` trips: the product of the first `k` rows, and the first `k` rows of the result. -/
theorem atK_row (c : Dev nD) : ∀ k, k ≤ 16384 → atK m c k main_v2_2 = running (m ((c : Thread nD τ).loc main_arg0)) k
  | 0, _ => entry_row m c
  | k + 1, hk => by
    rw [atK_succ, trip_row, atK_row c k (by omega), atK_x, atK_n]
    funext j
    show FloatOps.mulf (running _ k j) (rowRead _ _ j) = running _ (k + 1) j
    rw [rowRead_apply _ k (by omega)]
    exact (running_succ _ k (by omega) j).symm
theorem atK_mat (c : Dev nD) : ∀ k, k ≤ 16384 → ∀ i : S16384x1024.Idx, (i 0).val < k →
    atK m c k main_v2_3 i = prefixes (m ((c : Thread nD τ).loc main_arg0)) i
  | 0, _, i, h => absurd h (Nat.not_lt_zero _)
  | k + 1, hk, i, h => by
    rw [atK_succ, trip_mat, ← trip_row, show trip (atK m c k) main_v2_2 = running (m ((c : Thread nD τ).loc main_arg0)) (k + 1) from
      atK_row m c (k + 1) hk, atK_n, rowWrite_apply _ _ k (by omega)]
    by_cases hi : (i 0).val = k
    · rw [if_pos hi, prefixes, hi]
    · rw [if_neg hi]; exact atK_mat c k (by omega) i (by omega)

/-- The reference's run: from any memory with every counter at zero, every weakly fair execution terminates, the result
    holding every row's product up to it, and the argument unchanged. -/
theorem run_ref (ρ : Dev nD → PrngReg) : θ_run defs (onTc (τ := τ) (main (F := F))) (⟨m, fun _ => 0, ρ⟩ : MemSt nD τ sig (Elt F))
    (fun r => ∀ c : Dev nD, r.2.mem ((c : Thread nD τ).loc main_v2_3) = prefixes (m ((c : Thread nD τ).loc main_arg0))
      ∧ r.2.mem ((c : Thread nD τ).loc main_arg0) = m ((c : Thread nD τ).loc main_arg0)) := by
  refine (θ_run defs _ _).mono (fun r h c => ⟨?_, ?_⟩)
    (run_loop (pcfgs (F := F)) defs₀ loops main 0 main_while0_cond main_while0_body rfl preI bodyI postI condOps pre_plain body_plain .nil main_chain body_chain 16384 m ρ (cond_spec m))
  · refine (h c main_v2_3 rfl).trans (funext fun i => ?_)
    rw [finalContents, afterL_nil, cond_ne _ (by decide) (by decide)]
    exact atK_mat m c 16384 le_rfl i (i 0).isLt
  · refine (h c main_arg0 rfl).trans ?_
    rw [finalContents, afterL_nil, cond_ne _ (by decide) (by decide)]
    exact atK_arg m c 16384

end Cert.Cumprod.Loop

end
-- ==== Proof.Values.lean ====
/-
The two results over the extended reals: both hold, in every row, the product of the rows of the whole argument up to it.
-/
module

public import proofs.«01_k».proof.Proof.Products
public import proofs.«01_k».proof.Proof.Launch
public import proofs.«01_k».proof.Proof.Loop

@[expose] public section

set_option maxRecDepth 16384

noncomputable section

namespace Cert.Cumprod

open Cert.KernelIdeal Cert.KernelIdeal.Gen
open Idealize.ShloMosaic Idealize.ShloMosaic.TcCoe

/-! ## The kernel's result -/

/-- The word a device compares with `k` is at least `k` exactly from device `k` on. -/
theorem word_ge (c : Dev nD) (k : Fin 4) : Scalar.cmpi .sge (myWord c) (BitVec.ofNat 32 k.val) = if k.val ≤ c.val then 1#1 else 0#1 := by
  revert c k; decide

/-- The factors the comparisons keep are the totals of the devices before. -/
theorem kept_prod (T : ℕ → EReal) (c : Dev nD) :
    (1 * Scalar.select (Scalar.cmpi .sge (myWord c) 1#32) (T (src 1 c).val) 1) * Scalar.select (Scalar.cmpi .sge (myWord c) 2#32) (T (src 2 c).val) 1
      * Scalar.select (Scalar.cmpi .sge (myWord c) 3#32) (T (src 3 c).val) 1 = ∏ d ∈ Finset.range c.val, T d := by
  rw [show (1#32 : BitVec 32) = BitVec.ofNat 32 (1 : Fin 4).val from rfl, show (2#32 : BitVec 32) = BitVec.ofNat 32 (2 : Fin 4).val from rfl,
    show (3#32 : BitVec 32) = BitVec.ofNat 32 (3 : Fin 4).val from rfl, word_ge, word_ge, word_ge]
  fin_cases c
  · simp [Scalar.select]
  · simp [Scalar.select, src]
  · simp [Scalar.select, src, Finset.prod_range_succ, mul_comm]
  · simp [Scalar.select, src, Finset.prod_range_succ, mul_comm, mul_left_comm, mul_assoc]

variable (x : (Tall 16384).Idx → EReal) (X : Dev nD → Big Ideal)

/-- Every device's operand is its block of rows of `x`, in blocks of 64. -/
def Blocks : Prop := ∀ (c : Dev nD) (b : Fin 64) (n : Fin 1024) (r : ℕ), r < 64 → rows (X c) b n r = column x n (c.val * 4096 + (b.val * 64 + r))

variable (hX : Blocks x X)
include hX

/-- A block's product, for the blocks there are. -/
theorem block_column (c : Dev nD) (n : Fin 1024) (b : ℕ) (hb : b < 64) :
    column (n := 64) (k0_pay28 (lastOf (scanned (X c)))) n b = ∏ r ∈ Finset.range 64, column x n (c.val * 4096 + (b * 64 + r)) := by
  unfold column
  rw [dif_pos hb, pay28_apply, lastOf_prod]
  refine Finset.prod_congr rfl fun r hr => ?_
  exact hX c ⟨b, hb⟩ n r (Finset.mem_range.mp hr)

theorem tot_prod (c : Dev nD) (n : Fin 1024) (i : S1x1024.Idx) (hn : n = i 1) :
    tot X c i = ∏ q ∈ Finset.range 4096, column x n (c.val * 4096 + q) := by
  unfold tot
  rw [pay29_prod _ i n hn, show (4096 : ℕ) = 64 * 64 from rfl, prod_groups]
  exact Finset.prod_congr rfl fun b hb => block_column x X hX c n b (Finset.mem_range.mp hb)

/-- The kernel's result before the last reshape: the product of the whole argument's rows up to this one. -/
theorem result_prod (c : Dev nD) (b r : Fin 64) (n : Fin 1024) :
    result X c (at3 b r n) = ∏ q ∈ Finset.range (c.val * 4096 + (b.val * 64 + r.val) + 1), column x n q := by
  have hT : ∀ k : Fin 4, gath X c (atT (n := 4) k n) = (fun d => ∏ q ∈ Finset.range 4096, column x n (d * 4096 + q)) (src k c).val := fun k =>
    tot_prod x X hX (src k c) n _ rfl
  have hf : factors X c (colOf (at3 b r n)) = (∏ q ∈ Finset.range (b.val * 64), column x n (c.val * 4096 + q)) * ∏ q ∈ Finset.range (c.val * 4096), column x n q := by
    unfold factors
    refine (pay33_apply _ _ _ _).trans (congrArg₂ (fun a b : EReal => a * b) ?_ ?_)
    · rw [blockScan_prod _ _ n rfl, prod_groups]
      exact Finset.prod_congr rfl fun b' hb => block_column x X hX c n b' (lt_trans (Finset.mem_range.mp hb) b.isLt)
    · rw [prod_groups]
      refine Eq.trans ?_ (kept_prod (fun d => ∏ q ∈ Finset.range 4096, column x n (d * 4096 + q)) c)
      show (1 * Scalar.select _ (gath X c (atT (n := 4) 1 n)) 1) * Scalar.select _ (gath X c (atT (n := 4) 2 n)) 1 * Scalar.select _ (gath X c (atT (n := 4) 3 n)) 1 = _
      rw [hT, hT, hT]
  have hs : scanned (X c) (at3 b r n) = ∏ q ∈ Finset.range (r.val + 1), column x n (c.val * 4096 + (b.val * 64 + q)) := by
    rw [scanned_prod]
    exact Finset.prod_congr rfl fun q hq => hX c b n q (by have := Finset.mem_range.mp hq; have := r.isLt; have : q < r.val + 1 := Finset.mem_range.mp hq; omega)
  refine (congrArg₂ (fun a b : EReal => a * b) hs hf).trans ?_
  rw [show c.val * 4096 + (b.val * 64 + r.val) + 1 = c.val * 4096 + (b.val * 64 + (r.val + 1)) by omega, Finset.prod_range_add _ (c.val * 4096),
    Finset.prod_range_add _ (b.val * 64) (r.val + 1)]
  rw [mul_comm, mul_comm (∏ q ∈ Finset.range (b.val * 64), _), mul_assoc]

omit hX

/-! ## The reference's result -/

/-- The product carried by the loop. -/
theorem running_prod (j : S1024.Idx) (n : Fin 1024) (hn : n = j 0) : ∀ k, k ≤ 16384 → Loop.running (F := Ideal) x k j = ∏ q ∈ Finset.range k, column x n q
  | 0, _ => Ideal.ofBits_one_f32
  | k + 1, hk => by
    rw [Loop.running_succ (F := Ideal) x k (by omega) j, running_prod j n hn k (by omega), Finset.prod_range_succ]
    refine congrArg (fun y : EReal => (∏ q ∈ Finset.range k, column x n q) * y) ?_
    refine Eq.trans (congrArg x (funext fun a => ?_)) (column_of_lt x n (by omega : k < 16384)).symm
    match a with
    | 0 => rfl
    | 1 => exact hn.symm

theorem prefixes_prod (i : (Tall 16384).Idx) (n : Fin 1024) (hn : n = i 1) :
    Loop.prefixes (F := Ideal) x i = ∏ q ∈ Finset.range ((i 0).val + 1), column x n q :=
  running_prod x _ n hn _ (i 0).isLt

/-! ## Their equality -/

variable (m : (ℓ : Loc nD τ sig) → Buf (Elt Ideal) ℓ)

/-- If every device's argument is its block of `x`, so is its operand. -/
theorem operand_blocks (h : ∀ c : Dev nD, arg m c = Layout.block (Tall 4096) (Tall 16384) 0 4 c x) : Blocks x (operand m) := fun c b n r hr => by
  have hc : c.val < 4 := c.isLt
  have hb : b.val < 64 := b.isLt
  unfold rows column
  rw [dif_pos hr, dif_pos (by omega : c.val * 4096 + (b.val * 64 + r) < 16384), operand_eq, h c]
  refine (shapeCast_apply _ _ _ (atT (n := 4096) ⟨b.val * 64 + r, by omega⟩ n) ?_).trans ?_
  · rw [Shape.rowMajor_val_two, Shape.rowMajor_val_three]
    rfl
  · rw [Layout.block_apply]
    refine congrArg x (funext fun a => Fin.ext ?_)
    match a with
    | 0 => rfl
    | 1 => rfl

/-- Every device's result is its block of the reference's. -/
theorem results_eq (h : ∀ c : Dev nD, arg m c = Layout.block (Tall 4096) (Tall 16384) 0 4 c x) (c : Dev nD) :
    shapeCast S4096x1024 (result (operand m) c) (by decide) = Layout.block (Tall 4096) (Tall 16384) 0 4 c (Loop.prefixes (F := Ideal) x) := by
  funext i
  have hi : (i 0).val < 4096 := (i 0).isLt
  refine (shapeCast_apply _ _ i (at3 ⟨(i 0).val / 64, by omega⟩ ⟨(i 0).val % 64, by omega⟩ (i 1)) ?_).trans ?_
  · rw [Shape.rowMajor_val_two, Shape.rowMajor_val_three]
    show ((i 0).val / 64 * 64 + (i 0).val % 64) * 1024 + (i 1).val = (i 0).val * 1024 + (i 1).val
    omega
  · refine (result_prod x _ (operand_blocks x m h) c _ _ _).trans (Eq.trans ?_ (prefixes_prod x _ (i 1) rfl).symm)
    show ∏ q ∈ Finset.range (c.val * 4096 + ((i 0).val / 64 * 64 + (i 0).val % 64) + 1), _ = ∏ q ∈ Finset.range (c.val * 4096 + (i 0).val + 1), _
    rw [Nat.div_add_mod']

end Cert.Cumprod

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Values
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel ends on every execution, its argument unchanged and every counter zero. -/
theorem frame_kernel : Cert.quiescent_Kernel := fun m ρ _ =>
  (θ_run Cert.KernelIdeal.defs _ _).mono (fun _ h => ⟨fun c => (h.1 c).1, h.2⟩) (Cert.Cumprod.run_values (F := Bits) m ρ)

/-- The same of the kernel over the extended reals. -/
theorem frame_ideal : Cert.quiescent_KernelIdeal := fun m ρ _ =>
  (θ_run Cert.KernelIdeal.defs _ _).mono (fun _ h => ⟨fun c => (h.1 c).1, h.2⟩) (Cert.Cumprod.run_values (F := Ideal) m ρ)

/-- The same of the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.Cumprod.Loop.run_ref (F := Ideal) m ρ)

/-- Over the extended reals every device's result is its block of the reference's. -/
theorem equal : Cert.algebraic_KernelIdeal_ReferenceIdeal := fun m ρ m' ρ' _ h =>
  ⟨Cert.Cumprod.Loop.prefixes (F := Ideal) (m' (((0 : Dev Cert.ReferenceIdeal.nD).tc : Thread Cert.ReferenceIdeal.nD Cert.ReferenceIdeal.τ).loc Cert.ReferenceIdeal.main_arg0)),
    (θ_run Cert.KernelIdeal.defs _ _).mono (fun _ hr c => ⟨((hr.1 c).2).trans (Cert.Cumprod.results_eq _ m h c), (hr.1 c).1⟩)
      (Cert.Cumprod.run_values (F := Ideal) m ρ),
    (θ_run Cert.ReferenceIdeal.defs _ _).mono (fun _ hr => hr 0) (Cert.Cumprod.Loop.run_ref (F := Ideal) m' ρ')⟩

theorem claim : Cert.Claim := ⟨Cert.Kernel.Gen.facts, Cert.KernelIdeal.Gen.facts, Cert.ReferenceIdeal.Gen.facts,
  frame_kernel, frame_ideal, frame_reference, trivial, equal⟩

end Cert.Proof

end
